-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v32)) (v1 : (c : Dev Cert.KernelIdeal.nD) → Buf (Elt Ideal) ((c.tc : Thread Cert.KernelIdeal.nD Cert.KernelIdeal.τ).loc Cert.KernelIdeal.main_v31_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_v31_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_v78) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2x512x512 : Shape := ⟨3, ![2, 512, 512]⟩
abbrev S128x2 : Shape := ⟨2, ![128, 2]⟩
abbrev S4x64 : Shape := ⟨2, ![4, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S_ : Shape := ⟨0, ![]⟩
abbrev S2x64 : Shape := ⟨2, ![2, 64]⟩

class Facts : Prop where
  bcast_S_S128x2 : S_.BroadcastsInDim S128x2 (![] : Fin 0 → Fin S128x2.rank)
  reducesTo_S128x2_S_d0_1 : S128x2.ReducesTo [0, 1] S_
  h_S_ : 0 < S_.numel
  slices_S4x64_S2x64_0_0 : S4x64.Slices ![0, 0] S2x64
  bcast_S_S2x64 : S_.BroadcastsInDim S2x64 (![] : Fin 0 → Fin S2x64.rank)
  reducesTo_S2x64_S_d0_1 : S2x64.ReducesTo [0, 1] S_

variable [Facts]

def fn {F : FTy → Type} [FloatOps F] (main_arg0 : FVec F S2x512x512 .f32) (main_arg1 : FVec F S2x512x512 .f32) (main_arg2 : FVec F S128x2 .f32) (main_arg3 : IVec S128x2 32) (main_arg4 : FVec F S4x64 .f32) (main_arg5 : FVec F S64 .f32) (main_arg6 : FVec F S64x64 .f32) (main_arg7 : FVec F S64 .f32) (main_arg8 : FVec F S64x1 .f32) (main_arg9 : FVec F S1 .f32) : IVec S_ 1 :=
  let main_v0 : FVec F S128x2 .f32 := Host.absf main_arg2
  let main_cst : FVec F S_ .f32 := constant S_ .f32 0x7F800000#32
  let main_v1 : FVec F S128x2 .f32 := broadcastInDim S128x2 ![] bcast_S_S128x2 main_cst
  let main_v2 : IVec S128x2 1 := cmpf .olt main_v0 main_v1
  let main_c : IVec S_ 1 := constantI S_ 1 1#1
  let main_v3 : IVec S_ 1 := (fun x v => Host.reduce IntOp.andi x v reducesTo_S128x2_S_d0_1 h_S_) main_v2 main_c
  let main_v4 : FVec F S2x64 .f32 := (extractStridedSlice S2x64 ![0, 0] · slices_S4x64_S2x64_0_0) main_arg4
  let main_v5 : FVec F S2x64 .f32 := Host.absf main_v4
  let main_cst_0 : FVec F S_ .f32 := constant S_ .f32 0x7F800000#32
  let main_v6 : FVec F S2x64 .f32 := broadcastInDim S2x64 ![] bcast_S_S2x64 main_cst_0
  let main_v7 : IVec S2x64 1 := cmpf .olt main_v5 main_v6
  let main_c_1 : IVec S_ 1 := constantI S_ 1 1#1
  let main_v8 : IVec S_ 1 := (fun x v => Host.reduce IntOp.andi x v reducesTo_S2x64_S_d0_1 h_S_) main_v7 main_c_1
  let main_v9 : IVec S_ 1 := andi main_v3 main_v8
  main_v9
-- ==== Kernel.lean ====
abbrev S2x512x512 : Shape := ⟨3, ![2, 512, 512]⟩
abbrev S128x2 : Shape := ⟨2, ![128, 2]⟩
abbrev S4x64 : Shape := ⟨2, ![4, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S128x1 : Shape := ⟨2, ![128, 1]⟩
abbrev S128 : Shape := ⟨1, ![128]⟩
abbrev S_ : Shape := ⟨0, ![]⟩
abbrev S64x4 : Shape := ⟨2, ![64, 4]⟩
abbrev S1x64 : Shape := ⟨2, ![1, 64]⟩
abbrev S2x64 : Shape := ⟨2, ![2, 64]⟩
abbrev S128x64 : Shape := ⟨2, ![128, 64]⟩
abbrev S128x1x64 : Shape := ⟨3, ![128, 1, 64]⟩
abbrev S1x1 : Shape := ⟨2, ![1, 1]⟩
abbrev S16384 : Shape := ⟨1, ![16384]⟩
abbrev S1x16384 : Shape := ⟨2, ![1, 16384]⟩
abbrev S16384x128 : Shape := ⟨2, ![16384, 128]⟩
abbrev S3x2097152 : Shape := ⟨2, ![3, 2097152]⟩
abbrev S8x1x64 : Shape := ⟨3, ![8, 1, 64]⟩
abbrev S1024x128 : Shape := ⟨2, ![1024, 128]⟩
abbrev S3x131072 : Shape := ⟨2, ![3, 131072]⟩
abbrev S16x4x512x512 : Shape := ⟨4, ![16, 4, 512, 512]⟩
abbrev S4x512x512 : Shape := ⟨3, ![4, 512, 512]⟩
abbrev S1x4x512x512 : Shape := ⟨4, ![1, 4, 512, 512]⟩
abbrev S1x4x128x512 : Shape := ⟨4, ![1, 4, 128, 512]⟩
abbrev S4x128x512 : Shape := ⟨3, ![4, 128, 512]⟩
abbrev S4x128x128 : Shape := ⟨3, ![4, 128, 128]⟩
abbrev S4x16384 : Shape := ⟨2, ![4, 16384]⟩
abbrev S64x16384 : Shape := ⟨2, ![64, 16384]⟩
abbrev S1x1x64 : Shape := ⟨3, ![1, 1, 64]⟩
abbrev S128x128 : Shape := ⟨2, ![128, 128]⟩
abbrev S128x1x128x128 : Shape := ⟨4, ![128, 1, 128, 128]⟩

abbrev nBuf : Space → Nat
  | .hbm => 98
  | .vmem => 16
  | .smem => 2
  | _ => 0

abbrev bufTy : (tb : Table) → Fin (tcTables nBuf tb) → BufTy
  | .hbm, ⟨0, _⟩ => ⟨S2x512x512, .f32⟩
  | .hbm, ⟨1, _⟩ => ⟨S2x512x512, .f32⟩
  | .hbm, ⟨2, _⟩ => ⟨S128x2, .f32⟩
  | .hbm, ⟨3, _⟩ => ⟨S128x2, .i32⟩
  | .hbm, ⟨4, _⟩ => ⟨S4x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x1, .f32⟩
  | .hbm, ⟨9, _⟩ => ⟨S1, .f32⟩
  | .hbm, ⟨10, _⟩ => ⟨S128x1, .i32⟩
  | .hbm, ⟨11, _⟩ => ⟨S128, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S128, .i32⟩
  | .hbm, ⟨16, _⟩ => ⟨S128, .i32⟩
  | .hbm, ⟨17, _⟩ => ⟨S_, .i32⟩
  | .hbm, ⟨18, _⟩ => ⟨S128, .i32⟩
  | .hbm, ⟨19, _⟩ => ⟨S128, .i32⟩
  | .hbm, ⟨20, _⟩ => ⟨S_, .i32⟩
  | .hbm, ⟨21, _⟩ => ⟨S128, .i32⟩
  | .hbm, ⟨22, _⟩ => ⟨S128, .i32⟩
  | .hbm, ⟨23, _⟩ => ⟨S128x1, .i32⟩
  | .hbm, ⟨24, _⟩ => ⟨S128, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S128, .i32⟩
  | .hbm, ⟨29, _⟩ => ⟨S128, .i32⟩
  | .hbm, ⟨30, _⟩ => ⟨S_, .i32⟩
  | .hbm, ⟨31, _⟩ => ⟨S128, .i32⟩
  | .hbm, ⟨32, _⟩ => ⟨S128, .i32⟩
  | .hbm, ⟨33, _⟩ => ⟨S_, .i32⟩
  | .hbm, ⟨34, _⟩ => ⟨S128, .i32⟩
  | .hbm, ⟨35, _⟩ => ⟨S128, .i32⟩
  | .hbm, ⟨36, _⟩ => ⟨S64x4, .f32⟩
  | .hbm, ⟨37, _⟩ => ⟨S64x4, .bf16⟩
  | .hbm, ⟨38, _⟩ => ⟨S64x64, .f32⟩
  | .hbm, ⟨39, _⟩ => ⟨S64x64, .bf16⟩
  | .hbm, ⟨40, _⟩ => ⟨S1x64, .f32⟩
  | .hbm, ⟨41, _⟩ => ⟨S1x64, .bf16⟩
  | .hbm, ⟨42, _⟩ => ⟨S1x64, .f32⟩
  | .hbm, ⟨43, _⟩ => ⟨S2x64, .f32⟩
  | .hbm, ⟨44, _⟩ => ⟨S128x64, .f32⟩
  | .hbm, ⟨45, _⟩ => ⟨S128x64, .f32⟩
  | .hbm, ⟨46, _⟩ => ⟨S128x64, .f32⟩
  | .hbm, ⟨47, _⟩ => ⟨S128x64, .bf16⟩
  | .hbm, ⟨48, _⟩ => ⟨S128x1x64, .bf16⟩
  | .hbm, ⟨49, _⟩ => ⟨S64, .bf16⟩
  | .hbm, ⟨50, _⟩ => ⟨S64x1, .bf16⟩
  | .hbm, ⟨51, _⟩ => ⟨S1x1, .f32⟩
  | .hbm, ⟨52, _⟩ => ⟨S16384, .i32⟩
  | .hbm, ⟨53, _⟩ => ⟨S_, .i32⟩
  | .hbm, ⟨54, _⟩ => ⟨S_, .i32⟩
  | .hbm, ⟨55, _⟩ => ⟨S16384, .i32⟩
  | .hbm, ⟨56, _⟩ => ⟨S16384, .i32⟩
  | .hbm, ⟨57, _⟩ => ⟨S16384, .i32⟩
  | .hbm, ⟨58, _⟩ => ⟨S_, .i32⟩
  | .hbm, ⟨59, _⟩ => ⟨S16384, .i32⟩
  | .hbm, ⟨60, _⟩ => ⟨S16384, .i1⟩
  | .hbm, ⟨61, _⟩ => ⟨S16384, .i32⟩
  | .hbm, ⟨62, _⟩ => ⟨S16384, .i32⟩
  | .hbm, ⟨63, _⟩ => ⟨S_, .i32⟩
  | .hbm, ⟨64, _⟩ => ⟨S16384, .i32⟩
  | .hbm, ⟨65, _⟩ => ⟨S16384, .i1⟩
  | .hbm, ⟨66, _⟩ => ⟨S16384, .i1⟩
  | .hbm, ⟨67, _⟩ => ⟨S_, .i32⟩
  | .hbm, ⟨68, _⟩ => ⟨S16384, .i32⟩
  | .hbm, ⟨69, _⟩ => ⟨S16384, .i32⟩
  | .hbm, ⟨70, _⟩ => ⟨S16384, .i32⟩
  | .hbm, ⟨71, _⟩ => ⟨S1x16384, .i32⟩
  | .hbm, ⟨72, _⟩ => ⟨S_, .i32⟩
  | .hbm, ⟨73, _⟩ => ⟨S_, .i32⟩
  | .hbm, ⟨74, _⟩ => ⟨S_, .i32⟩
  | .hbm, ⟨75, _⟩ => ⟨S_, .i1⟩
  | .hbm, ⟨76, _⟩ => ⟨S_, .i32⟩
  | .hbm, ⟨77, _⟩ => ⟨S_, .i32⟩
  | .hbm, ⟨78, _⟩ => ⟨S16384, .i32⟩
  | .hbm, ⟨79, _⟩ => ⟨S16384, .i32⟩
  | .hbm, ⟨80, _⟩ => ⟨S_, .i32⟩
  | .hbm, ⟨81, _⟩ => ⟨S16384, .i32⟩
  | .hbm, ⟨82, _⟩ => ⟨S16384, .i1⟩
  | .hbm, ⟨83, _⟩ => ⟨S_, .i32⟩
  | .hbm, ⟨84, _⟩ => ⟨S16384, .i32⟩
  | .hbm, ⟨85, _⟩ => ⟨S16384, .i1⟩
  | .hbm, ⟨86, _⟩ => ⟨S_, .i32⟩
  | .hbm, ⟨87, _⟩ => ⟨S_, .i1⟩
  | .hbm, ⟨88, _⟩ => ⟨S16384, .i1⟩
  | .hbm, ⟨89, _⟩ => ⟨S16384, .i1⟩
  | .hbm, ⟨90, _⟩ => ⟨S16384, .i1⟩
  | .hbm, ⟨91, _⟩ => ⟨S16384, .i32⟩
  | .hbm, ⟨92, _⟩ => ⟨S16384, .i32⟩
  | .hbm, ⟨93, _⟩ => ⟨S16384, .i32⟩
  | .hbm, ⟨94, _⟩ => ⟨S1x16384, .i32⟩
  | .hbm, ⟨95, _⟩ => ⟨S16384x128, .f32⟩
  | .hbm, ⟨96, _⟩ => ⟨S3x2097152, .i32⟩
  | .hbm, ⟨97, _⟩ => ⟨S128x1x128x128, .f32⟩
  | .local _ .vmem, ⟨0, _⟩ => ⟨S1x16384, .i32⟩
  | .local _ .vmem, ⟨1, _⟩ => ⟨S1x16384, .i32⟩
  | .local _ .vmem, ⟨2, _⟩ => ⟨S2x512x512, .f32⟩
  | .local _ .vmem, ⟨3, _⟩ => ⟨S2x512x512, .f32⟩
  | .local _ .vmem, ⟨4, _⟩ => ⟨S64x4, .bf16⟩
  | .local _ .vmem, ⟨5, _⟩ => ⟨S8x1x64, .bf16⟩
  | .local _ .vmem, ⟨6, _⟩ => ⟨S8x1x64, .bf16⟩
  | .local _ .vmem, ⟨7, _⟩ => ⟨S64x64, .bf16⟩
  | .local _ .vmem, ⟨8, _⟩ => ⟨S64x1, .bf16⟩
  | .local _ .vmem, ⟨9, _⟩ => ⟨S1x64, .bf16⟩
  | .local _ .vmem, ⟨10, _⟩ => ⟨S1x1, .f32⟩
  | .local _ .vmem, ⟨11, _⟩ => ⟨S1024x128, .f32⟩
  | .local _ .vmem, ⟨12, _⟩ => ⟨S1024x128, .f32⟩
  | .local _ .vmem, ⟨13, _⟩ => ⟨S3x131072, .i32⟩
  | .local _ .vmem, ⟨14, _⟩ => ⟨S3x131072, .i32⟩
  | .local _ .vmem, ⟨15, _⟩ => ⟨S16x4x512x512, .bf16⟩
  | .local _ .smem, ⟨0, _⟩ => ⟨S128, .i32⟩
  | .local _ .smem, ⟨1, _⟩ => ⟨S128, .i32⟩
  | _, _ => ⟨S2x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_c_0 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_v2 : Ref sig .tc := ⟨.hbm, 19, rfl⟩
abbrev main_c_1 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_c_2 : Ref sig .tc := ⟨.hbm, 25, rfl⟩
abbrev main_c_3 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_v7 : Ref sig .tc := ⟨.hbm, 32, rfl⟩
abbrev main_c_4 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_c_5 : Ref sig .tc := ⟨.hbm, 53, rfl⟩
abbrev main_call2_v0 : Ref sig .tc := ⟨.hbm, 54, rfl⟩
abbrev main_call2_v1 : Ref sig .tc := ⟨.hbm, 55, rfl⟩
abbrev main_call2_v2 : Ref sig .tc := ⟨.hbm, 56, rfl⟩
abbrev main_call2_v3 : Ref sig .tc := ⟨.hbm, 57, rfl⟩
abbrev main_call2_v4 : Ref sig .tc := ⟨.hbm, 58, rfl⟩
abbrev main_call2_v5 : Ref sig .tc := ⟨.hbm, 59, rfl⟩
abbrev main_call2_v6 : Ref sig .tc := ⟨.hbm, 60, rfl⟩
abbrev main_call2_v7 : Ref sig .tc := ⟨.hbm, 61, rfl⟩
abbrev main_call2_v8 : Ref sig .tc := ⟨.hbm, 62, rfl⟩
abbrev main_call2_c : Ref sig .tc := ⟨.hbm, 63, rfl⟩
abbrev main_call2_v9 : Ref sig .tc := ⟨.hbm, 64, rfl⟩
abbrev main_call2_v10 : Ref sig .tc := ⟨.hbm, 65, rfl⟩
abbrev main_call2_v11 : Ref sig .tc := ⟨.hbm, 66, rfl⟩
abbrev main_call2_c_0 : Ref sig .tc := ⟨.hbm, 67, rfl⟩
abbrev main_call2_v12 : Ref sig .tc := ⟨.hbm, 68, rfl⟩
abbrev main_call2_v13 : Ref sig .tc := ⟨.hbm, 69, rfl⟩
abbrev main_v27 : Ref sig .tc := ⟨.hbm, 70, rfl⟩
abbrev main_v28 : Ref sig .tc := ⟨.hbm, 71, rfl⟩
abbrev main_c_6 : Ref sig .tc := ⟨.hbm, 72, rfl⟩
abbrev main_call3_v0 : Ref sig .tc := ⟨.hbm, 73, rfl⟩
abbrev main_call3_c : Ref sig .tc := ⟨.hbm, 74, rfl⟩
abbrev main_call3_v1 : Ref sig .tc := ⟨.hbm, 75, rfl⟩
abbrev main_call3_c_0 : Ref sig .tc := ⟨.hbm, 76, rfl⟩
abbrev main_call3_v2 : Ref sig .tc := ⟨.hbm, 77, rfl⟩
abbrev main_call3_v3 : Ref sig .tc := ⟨.hbm, 78, rfl⟩
abbrev main_call3_v4 : Ref sig .tc := ⟨.hbm, 79, rfl⟩
abbrev main_call3_c_1 : Ref sig .tc := ⟨.hbm, 80, rfl⟩
abbrev main_call3_v5 : Ref sig .tc := ⟨.hbm, 81, rfl⟩
abbrev main_call3_v6 : Ref sig .tc := ⟨.hbm, 82, rfl⟩
abbrev main_call3_c_2 : Ref sig .tc := ⟨.hbm, 83, rfl⟩
abbrev main_call3_v7 : Ref sig .tc := ⟨.hbm, 84, rfl⟩
abbrev main_call3_v8 : Ref sig .tc := ⟨.hbm, 85, rfl⟩
abbrev main_call3_c_3 : Ref sig .tc := ⟨.hbm, 86, rfl⟩
abbrev main_call3_v9 : Ref sig .tc := ⟨.hbm, 87, rfl⟩
abbrev main_call3_v10 : Ref sig .tc := ⟨.hbm, 88, rfl⟩
abbrev main_call3_v11 : Ref sig .tc := ⟨.hbm, 89, rfl⟩
abbrev main_call3_v12 : Ref sig .tc := ⟨.hbm, 90, rfl⟩
abbrev main_call3_v13 : Ref sig .tc := ⟨.hbm, 91, rfl⟩
abbrev main_call3_v14 : Ref sig .tc := ⟨.hbm, 92, rfl⟩
abbrev main_v29 : Ref sig .tc := ⟨.hbm, 93, rfl⟩
abbrev main_v30 : Ref sig .tc := ⟨.hbm, 94, rfl⟩
abbrev main_v31_0 : Ref sig .tc := ⟨.hbm, 95, rfl⟩
abbrev main_v31_1 : Ref sig .tc := ⟨.hbm, 96, rfl⟩
abbrev main_v32 : Ref sig .tc := ⟨.hbm, 97, rfl⟩
abbrev cc0_stg2_0 : Ref sig .tc := ⟨.vmem, 0, rfl⟩
abbrev cc0_stg3_0 : Ref sig .tc := ⟨.vmem, 1, rfl⟩
abbrev cc0_stg4_0 : Ref sig .tc := ⟨.vmem, 2, rfl⟩
abbrev cc0_stg5_0 : Ref sig .tc := ⟨.vmem, 3, rfl⟩
abbrev cc0_stg6_0 : Ref sig .tc := ⟨.vmem, 4, rfl⟩
abbrev cc0_stg7_0 : Ref sig .tc := ⟨.vmem, 5, rfl⟩
abbrev cc0_stg7_1 : Ref sig .tc := ⟨.vmem, 6, rfl⟩
abbrev cc0_stg8_0 : Ref sig .tc := ⟨.vmem, 7, rfl⟩
abbrev cc0_stg9_0 : Ref sig .tc := ⟨.vmem, 8, rfl⟩
abbrev cc0_stg10_0 : Ref sig .tc := ⟨.vmem, 9, rfl⟩
abbrev cc0_stg11_0 : Ref sig .tc := ⟨.vmem, 10, rfl⟩
abbrev cc0_stg12_0 : Ref sig .tc := ⟨.vmem, 11, rfl⟩
abbrev cc0_stg12_1 : Ref sig .tc := ⟨.vmem, 12, rfl⟩
abbrev cc0_stg13_0 : Ref sig .tc := ⟨.vmem, 13, rfl⟩
abbrev cc0_stg13_1 : Ref sig .tc := ⟨.vmem, 14, rfl⟩
abbrev cc0_scratch0 : Ref sig .tc := ⟨.vmem, 15, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem7_1 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem12_1 : DmaSem sig := 14
abbrev cc0_sem13_0 : DmaSem sig := 15
abbrev cc0_sem13_1 : DmaSem sig := 16

abbrev nD : Nat := 1
abbrev τ : Topo := Topo.v7x

variable {F : FTy → Type} [FloatOps F]

abbrev grid0 : Pipeline.Grid := ⟨1, ![16], ![false]⟩

def k0_off1 (i : grid0.Coords) : Fin 1 → Nat :=
  let arg0 : BitVec 32 := BitVec.ofNat 32 (i 0).val
  let c8_i32 : BitVec 32 := 8#32
  let v3 : BitVec 32 := Scalar.muli arg0 c8_i32
  let c0_i32_1 : BitVec 32 := 0#32
  let v4 : BitVec 32 := Scalar.addi v3 c0_i32_1
  let v5 : Index := Scalar.indexCast v4
  ![v5.toNat]
def k0_mult1 (v6 : BitVec 32) : BitVec 32 :=
  let c0_i32_2 : BitVec 32 := 0#32
  let v10 : BitVec 1 := Scalar.cmpi .sgt v6 c0_i32_2
  let v11 : BitVec 32 := Scalar.extui v10
  let c0_i32_3 : BitVec 32 := 0#32
  let v12 : BitVec 1 := Scalar.cmpi .slt v6 c0_i32_3
  let v13 : BitVec 32 := Scalar.extui v12
  let v14 : BitVec 32 := Scalar.subi v11 v13
  let c16_i32 : BitVec 32 := 16#32
  let c0_i32_4 : BitVec 32 := 0#32
  let v15 : BitVec 1 := Scalar.cmpi .sgt c16_i32 c0_i32_4
  let v16 : BitVec 32 := Scalar.extui v15
  let c0_i32_5 : BitVec 32 := 0#32
  let v17 : BitVec 1 := Scalar.cmpi .slt c16_i32 c0_i32_5
  let v18 : BitVec 32 := Scalar.extui v17
  let v19 : BitVec 32 := Scalar.subi v16 v18
  let v20 : BitVec 1 := Scalar.cmpi .ne v14 v19
  let v21 : BitVec 32 := Scalar.remsi v6 c16_i32
  let c0_i32_6 : BitVec 32 := 0#32
  let v22 : BitVec 1 := Scalar.cmpi .ne v21 c0_i32_6
  let v23 : BitVec 1 := Scalar.andi v20 v22
  let v9 : BitVec 32 := Scalar.divsi v6 c16_i32
  let c1_i32 : BitVec 32 := 1#32
  let v24 : BitVec 32 := Scalar.subi v9 c1_i32
  let v25 : BitVec 32 := Scalar.select v23 v24 v9
  let c16_i32_7 : BitVec 32 := 16#32
  let v26 : BitVec 32 := Scalar.muli v25 c16_i32_7
  v26

def k0_off2 (v6 : BitVec 32) : Fin 4 → Nat :=
  let c0_i32_2 : BitVec 32 := 0#32
  let v10 : BitVec 1 := Scalar.cmpi .sgt v6 c0_i32_2
  let v11 : BitVec 32 := Scalar.extui v10
  let c0_i32_3 : BitVec 32 := 0#32
  let v12 : BitVec 1 := Scalar.cmpi .slt v6 c0_i32_3
  let v13 : BitVec 32 := Scalar.extui v12
  let v14 : BitVec 32 := Scalar.subi v11 v13
  let c16_i32 : BitVec 32 := 16#32
  let c0_i32_4 : BitVec 32 := 0#32
  let v15 : BitVec 1 := Scalar.cmpi .sgt c16_i32 c0_i32_4
  let v16 : BitVec 32 := Scalar.extui v15
  let c0_i32_5 : BitVec 32 := 0#32
  let v17 : BitVec 1 := Scalar.cmpi .slt c16_i32 c0_i32_5
  let v18 : BitVec 32 := Scalar.extui v17
  let v19 : BitVec 32 := Scalar.subi v16 v18
  let v20 : BitVec 1 := Scalar.cmpi .ne v14 v19
  let v21 : BitVec 32 := Scalar.remsi v6 c16_i32
  let c0_i32_6 : BitVec 32 := 0#32
  let v22 : BitVec 1 := Scalar.cmpi .ne v21 c0_i32_6
  let v23 : BitVec 1 := Scalar.andi v20 v22
  let v9 : BitVec 32 := Scalar.divsi v6 c16_i32
  let c1_i32 : BitVec 32 := 1#32
  let v24 : BitVec 32 := Scalar.subi v9 c1_i32
  let v25 : BitVec 32 := Scalar.select v23 v24 v9
  let c16_i32_7 : BitVec 32 := 16#32
  let v26 : BitVec 32 := Scalar.muli v25 c16_i32_7
  let v27 : BitVec 32 := v26
  let v28 : BitVec 32 := Scalar.subi v6 v27
  let v29 : Index := Scalar.indexCast v28
  let c0 : Index := 0#32
  let v30 : Index := Scalar.indexCast v27
  let c0_8 : Index := 0#32
  ![v29.toNat, 0, v30.toNat, 0]

def k0_chk1 (v6 : BitVec 32) : Prop :=
  (16 ∣ (k0_mult1 v6).toNat) ∧
  (∀ a, (k0_off2 v6) a + S1x4x128x512.size a ≤ S16x4x512x512.size a)
theorem k0_mult1_dvd : ∀ (v6 : BitVec 32) (k0_hw1 : k0_chk1 v6), 16 ∣ (k0_mult1 v6).toNat := fun v6 k0_hw1 => k0_hw1.1
theorem k0_off2_inb : ∀ (v6 : BitVec 32) (k0_hw1 : k0_chk1 v6), ∀ a, (k0_off2 v6) a + S1x4x128x512.size a ≤ S16x4x512x512.size a := fun v6 k0_hw1 => k0_hw1.2

def k0_off3 (i : grid0.Coords) : Fin 1 → Nat :=
  let arg0 : BitVec 32 := BitVec.ofNat 32 (i 0).val
  let c8_i32_45 : BitVec 32 := 8#32
  let v104 : BitVec 32 := Scalar.muli arg0 c8_i32_45
  let c1_i32_46 : BitVec 32 := 1#32
  let v105 : BitVec 32 := Scalar.addi v104 c1_i32_46
  let v106 : Index := Scalar.indexCast v105
  ![v106.toNat]
def k0_mult2 (v107 : BitVec 32) : BitVec 32 :=
  let c0_i32_48 : BitVec 32 := 0#32
  let v111 : BitVec 1 := Scalar.cmpi .sgt v107 c0_i32_48
  let v112 : BitVec 32 := Scalar.extui v111
  let c0_i32_49 : BitVec 32 := 0#32
  let v113 : BitVec 1 := Scalar.cmpi .slt v107 c0_i32_49
  let v114 : BitVec 32 := Scalar.extui v113
  let v115 : BitVec 32 := Scalar.subi v112 v114
  let c16_i32_47 : BitVec 32 := 16#32
  let c0_i32_50 : BitVec 32 := 0#32
  let v116 : BitVec 1 := Scalar.cmpi .sgt c16_i32_47 c0_i32_50
  let v117 : BitVec 32 := Scalar.extui v116
  let c0_i32_51 : BitVec 32 := 0#32
  let v118 : BitVec 1 := Scalar.cmpi .slt c16_i32_47 c0_i32_51
  let v119 : BitVec 32 := Scalar.extui v118
  let v120 : BitVec 32 := Scalar.subi v117 v119
  let v121 : BitVec 1 := Scalar.cmpi .ne v115 v120
  let v122 : BitVec 32 := Scalar.remsi v107 c16_i32_47
  let c0_i32_52 : BitVec 32 := 0#32
  let v123 : BitVec 1 := Scalar.cmpi .ne v122 c0_i32_52
  let v124 : BitVec 1 := Scalar.andi v121 v123
  let v110 : BitVec 32 := Scalar.divsi v107 c16_i32_47
  let c1_i32_53 : BitVec 32 := 1#32
  let v125 : BitVec 32 := Scalar.subi v110 c1_i32_53
  let v126 : BitVec 32 := Scalar.select v124 v125 v110
  let c16_i32_54 : BitVec 32 := 16#32
  let v127 : BitVec 32 := Scalar.muli v126 c16_i32_54
  v127

def k0_off4 (v107 : BitVec 32) : Fin 4 → Nat :=
  let c0_i32_48 : BitVec 32 := 0#32
  let v111 : BitVec 1 := Scalar.cmpi .sgt v107 c0_i32_48
  let v112 : BitVec 32 := Scalar.extui v111
  let c0_i32_49 : BitVec 32 := 0#32
  let v113 : BitVec 1 := Scalar.cmpi .slt v107 c0_i32_49
  let v114 : BitVec 32 := Scalar.extui v113
  let v115 : BitVec 32 := Scalar.subi v112 v114
  let c16_i32_47 : BitVec 32 := 16#32
  let c0_i32_50 : BitVec 32 := 0#32
  let v116 : BitVec 1 := Scalar.cmpi .sgt c16_i32_47 c0_i32_50
  let v117 : BitVec 32 := Scalar.extui v116
  let c0_i32_51 : BitVec 32 := 0#32
  let v118 : BitVec 1 := Scalar.cmpi .slt c16_i32_47 c0_i32_51
  let v119 : BitVec 32 := Scalar.extui v118
  let v120 : BitVec 32 := Scalar.subi v117 v119
  let v121 : BitVec 1 := Scalar.cmpi .ne v115 v120
  let v122 : BitVec 32 := Scalar.remsi v107 c16_i32_47
  let c0_i32_52 : BitVec 32 := 0#32
  let v123 : BitVec 1 := Scalar.cmpi .ne v122 c0_i32_52
  let v124 : BitVec 1 := Scalar.andi v121 v123
  let v110 : BitVec 32 := Scalar.divsi v107 c16_i32_47
  let c1_i32_53 : BitVec 32 := 1#32
  let v125 : BitVec 32 := Scalar.subi v110 c1_i32_53
  let v126 : BitVec 32 := Scalar.select v124 v125 v110
  let c16_i32_54 : BitVec 32 := 16#32
  let v127 : BitVec 32 := Scalar.muli v126 c16_i32_54
  let v128 : BitVec 32 := v127
  let v129 : BitVec 32 := Scalar.subi v107 v128
  let v130 : Index := Scalar.indexCast v129
  let c0_55 : Index := 0#32
  let v131 : Index := Scalar.indexCast v128
  let c0_56 : Index := 0#32
  ![v130.toNat, 0, v131.toNat, 0]

def k0_chk2 (v107 : BitVec 32) : Prop :=
  (16 ∣ (k0_mult2 v107).toNat) ∧
  (∀ a, (k0_off4 v107) a + S1x4x128x512.size a ≤ S16x4x512x512.size a)
theorem k0_mult2_dvd : ∀ (v107 : BitVec 32) (k0_hw2 : k0_chk2 v107), 16 ∣ (k0_mult2 v107).toNat := fun v107 k0_hw2 => k0_hw2.1
theorem k0_off4_inb : ∀ (v107 : BitVec 32) (k0_hw2 : k0_chk2 v107), ∀ a, (k0_off4 v107) a + S1x4x128x512.size a ≤ S16x4x512x512.size a := fun v107 k0_hw2 => k0_hw2.2

def k0_off5 (i : grid0.Coords) : Fin 1 → Nat :=
  let arg0 : BitVec 32 := BitVec.ofNat 32 (i 0).val
  let c8_i32_95 : BitVec 32 := 8#32
  let v205 : BitVec 32 := Scalar.muli arg0 c8_i32_95
  let c2_i32 : BitVec 32 := 2#32
  let v206 : BitVec 32 := Scalar.addi v205 c2_i32
  let v207 : Index := Scalar.indexCast v206
  ![v207.toNat]
def k0_mult3 (v208 : BitVec 32) : BitVec 32 :=
  let c0_i32_97 : BitVec 32 := 0#32
  let v212 : BitVec 1 := Scalar.cmpi .sgt v208 c0_i32_97
  let v213 : BitVec 32 := Scalar.extui v212
  let c0_i32_98 : BitVec 32 := 0#32
  let v214 : BitVec 1 := Scalar.cmpi .slt v208 c0_i32_98
  let v215 : BitVec 32 := Scalar.extui v214
  let v216 : BitVec 32 := Scalar.subi v213 v215
  let c16_i32_96 : BitVec 32 := 16#32
  let c0_i32_99 : BitVec 32 := 0#32
  let v217 : BitVec 1 := Scalar.cmpi .sgt c16_i32_96 c0_i32_99
  let v218 : BitVec 32 := Scalar.extui v217
  let c0_i32_100 : BitVec 32 := 0#32
  let v219 : BitVec 1 := Scalar.cmpi .slt c16_i32_96 c0_i32_100
  let v220 : BitVec 32 := Scalar.extui v219
  let v221 : BitVec 32 := Scalar.subi v218 v220
  let v222 : BitVec 1 := Scalar.cmpi .ne v216 v221
  let v223 : BitVec 32 := Scalar.remsi v208 c16_i32_96
  let c0_i32_101 : BitVec 32 := 0#32
  let v224 : BitVec 1 := Scalar.cmpi .ne v223 c0_i32_101
  let v225 : BitVec 1 := Scalar.andi v222 v224
  let v211 : BitVec 32 := Scalar.divsi v208 c16_i32_96
  let c1_i32_102 : BitVec 32 := 1#32
  let v226 : BitVec 32 := Scalar.subi v211 c1_i32_102
  let v227 : BitVec 32 := Scalar.select v225 v226 v211
  let c16_i32_103 : BitVec 32 := 16#32
  let v228 : BitVec 32 := Scalar.muli v227 c16_i32_103
  v228

def k0_off6 (v208 : BitVec 32) : Fin 4 → Nat :=
  let c0_i32_97 : BitVec 32 := 0#32
  let v212 : BitVec 1 := Scalar.cmpi .sgt v208 c0_i32_97
  let v213 : BitVec 32 := Scalar.extui v212
  let c0_i32_98 : BitVec 32 := 0#32
  let v214 : BitVec 1 := Scalar.cmpi .slt v208 c0_i32_98
  let v215 : BitVec 32 := Scalar.extui v214
  let v216 : BitVec 32 := Scalar.subi v213 v215
  let c16_i32_96 : BitVec 32 := 16#32
  let c0_i32_99 : BitVec 32 := 0#32
  let v217 : BitVec 1 := Scalar.cmpi .sgt c16_i32_96 c0_i32_99
  let v218 : BitVec 32 := Scalar.extui v217
  let c0_i32_100 : BitVec 32 := 0#32
  let v219 : BitVec 1 := Scalar.cmpi .slt c16_i32_96 c0_i32_100
  let v220 : BitVec 32 := Scalar.extui v219
  let v221 : BitVec 32 := Scalar.subi v218 v220
  let v222 : BitVec 1 := Scalar.cmpi .ne v216 v221
  let v223 : BitVec 32 := Scalar.remsi v208 c16_i32_96
  let c0_i32_101 : BitVec 32 := 0#32
  let v224 : BitVec 1 := Scalar.cmpi .ne v223 c0_i32_101
  let v225 : BitVec 1 := Scalar.andi v222 v224
  let v211 : BitVec 32 := Scalar.divsi v208 c16_i32_96
  let c1_i32_102 : BitVec 32 := 1#32
  let v226 : BitVec 32 := Scalar.subi v211 c1_i32_102
  let v227 : BitVec 32 := Scalar.select v225 v226 v211
  let c16_i32_103 : BitVec 32 := 16#32
  let v228 : BitVec 32 := Scalar.muli v227 c16_i32_103
  let v229 : BitVec 32 := v228
  let v230 : BitVec 32 := Scalar.subi v208 v229
  let v231 : Index := Scalar.indexCast v230
  let c0_104 : Index := 0#32
  let v232 : Index := Scalar.indexCast v229
  let c0_105 : Index := 0#32
  ![v231.toNat, 0, v232.toNat, 0]

def k0_chk3 (v208 : BitVec 32) : Prop :=
  (16 ∣ (k0_mult3 v208).toNat) ∧
  (∀ a, (k0_off6 v208) a + S1x4x128x512.size a ≤ S16x4x512x512.size a)
theorem k0_mult3_dvd : ∀ (v208 : BitVec 32) (k0_hw3 : k0_chk3 v208), 16 ∣ (k0_mult3 v208).toNat := fun v208 k0_hw3 => k0_hw3.1
theorem k0_off6_inb : ∀ (v208 : BitVec 32) (k0_hw3 : k0_chk3 v208), ∀ a, (k0_off6 v208) a + S1x4x128x512.size a ≤ S16x4x512x512.size a := fun v208 k0_hw3 => k0_hw3.2

def k0_off7 (i : grid0.Coords) : Fin 1 → Nat :=
  let arg0 : BitVec 32 := BitVec.ofNat 32 (i 0).val
  let c8_i32_144 : BitVec 32 := 8#32
  let v306 : BitVec 32 := Scalar.muli arg0 c8_i32_144
  let c3_i32 : BitVec 32 := 3#32
  let v307 : BitVec 32 := Scalar.addi v306 c3_i32
  let v308 : Index := Scalar.indexCast v307
  ![v308.toNat]
def k0_mult4 (v309 : BitVec 32) : BitVec 32 :=
  let c0_i32_146 : BitVec 32 := 0#32
  let v313 : BitVec 1 := Scalar.cmpi .sgt v309 c0_i32_146
  let v314 : BitVec 32 := Scalar.extui v313
  let c0_i32_147 : BitVec 32 := 0#32
  let v315 : BitVec 1 := Scalar.cmpi .slt v309 c0_i32_147
  let v316 : BitVec 32 := Scalar.extui v315
  let v317 : BitVec 32 := Scalar.subi v314 v316
  let c16_i32_145 : BitVec 32 := 16#32
  let c0_i32_148 : BitVec 32 := 0#32
  let v318 : BitVec 1 := Scalar.cmpi .sgt c16_i32_145 c0_i32_148
  let v319 : BitVec 32 := Scalar.extui v318
  let c0_i32_149 : BitVec 32 := 0#32
  let v320 : BitVec 1 := Scalar.cmpi .slt c16_i32_145 c0_i32_149
  let v321 : BitVec 32 := Scalar.extui v320
  let v322 : BitVec 32 := Scalar.subi v319 v321
  let v323 : BitVec 1 := Scalar.cmpi .ne v317 v322
  let v324 : BitVec 32 := Scalar.remsi v309 c16_i32_145
  let c0_i32_150 : BitVec 32 := 0#32
  let v325 : BitVec 1 := Scalar.cmpi .ne v324 c0_i32_150
  let v326 : BitVec 1 := Scalar.andi v323 v325
  let v312 : BitVec 32 := Scalar.divsi v309 c16_i32_145
  let c1_i32_151 : BitVec 32 := 1#32
  let v327 : BitVec 32 := Scalar.subi v312 c1_i32_151
  let v328 : BitVec 32 := Scalar.select v326 v327 v312
  let c16_i32_152 : BitVec 32 := 16#32
  let v329 : BitVec 32 := Scalar.muli v328 c16_i32_152
  v329

def k0_off8 (v309 : BitVec 32) : Fin 4 → Nat :=
  let c0_i32_146 : BitVec 32 := 0#32
  let v313 : BitVec 1 := Scalar.cmpi .sgt v309 c0_i32_146
  let v314 : BitVec 32 := Scalar.extui v313
  let c0_i32_147 : BitVec 32 := 0#32
  let v315 : BitVec 1 := Scalar.cmpi .slt v309 c0_i32_147
  let v316 : BitVec 32 := Scalar.extui v315
  let v317 : BitVec 32 := Scalar.subi v314 v316
  let c16_i32_145 : BitVec 32 := 16#32
  let c0_i32_148 : BitVec 32 := 0#32
  let v318 : BitVec 1 := Scalar.cmpi .sgt c16_i32_145 c0_i32_148
  let v319 : BitVec 32 := Scalar.extui v318
  let c0_i32_149 : BitVec 32 := 0#32
  let v320 : BitVec 1 := Scalar.cmpi .slt c16_i32_145 c0_i32_149
  let v321 : BitVec 32 := Scalar.extui v320
  let v322 : BitVec 32 := Scalar.subi v319 v321
  let v323 : BitVec 1 := Scalar.cmpi .ne v317 v322
  let v324 : BitVec 32 := Scalar.remsi v309 c16_i32_145
  let c0_i32_150 : BitVec 32 := 0#32
  let v325 : BitVec 1 := Scalar.cmpi .ne v324 c0_i32_150
  let v326 : BitVec 1 := Scalar.andi v323 v325
  let v312 : BitVec 32 := Scalar.divsi v309 c16_i32_145
  let c1_i32_151 : BitVec 32 := 1#32
  let v327 : BitVec 32 := Scalar.subi v312 c1_i32_151
  let v328 : BitVec 32 := Scalar.select v326 v327 v312
  let c16_i32_152 : BitVec 32 := 16#32
  let v329 : BitVec 32 := Scalar.muli v328 c16_i32_152
  let v330 : BitVec 32 := v329
  let v331 : BitVec 32 := Scalar.subi v309 v330
  let v332 : Index := Scalar.indexCast v331
  let c0_153 : Index := 0#32
  let v333 : Index := Scalar.indexCast v330
  let c0_154 : Index := 0#32
  ![v332.toNat, 0, v333.toNat, 0]

def k0_chk4 (v309 : BitVec 32) : Prop :=
  (16 ∣ (k0_mult4 v309).toNat) ∧
  (∀ a, (k0_off8 v309) a + S1x4x128x512.size a ≤ S16x4x512x512.size a)
theorem k0_mult4_dvd : ∀ (v309 : BitVec 32) (k0_hw4 : k0_chk4 v309), 16 ∣ (k0_mult4 v309).toNat := fun v309 k0_hw4 => k0_hw4.1
theorem k0_off8_inb : ∀ (v309 : BitVec 32) (k0_hw4 : k0_chk4 v309), ∀ a, (k0_off8 v309) a + S1x4x128x512.size a ≤ S16x4x512x512.size a := fun v309 k0_hw4 => k0_hw4.2

def k0_off9 (i : grid0.Coords) : Fin 1 → Nat :=
  let arg0 : BitVec 32 := BitVec.ofNat 32 (i 0).val
  let c8_i32_192 : BitVec 32 := 8#32
  let v407 : BitVec 32 := Scalar.muli arg0 c8_i32_192
  let c4_i32 : BitVec 32 := 4#32
  let v408 : BitVec 32 := Scalar.addi v407 c4_i32
  let v409 : Index := Scalar.indexCast v408
  ![v409.toNat]
def k0_mult5 (v410 : BitVec 32) : BitVec 32 :=
  let c0_i32_194 : BitVec 32 := 0#32
  let v414 : BitVec 1 := Scalar.cmpi .sgt v410 c0_i32_194
  let v415 : BitVec 32 := Scalar.extui v414
  let c0_i32_195 : BitVec 32 := 0#32
  let v416 : BitVec 1 := Scalar.cmpi .slt v410 c0_i32_195
  let v417 : BitVec 32 := Scalar.extui v416
  let v418 : BitVec 32 := Scalar.subi v415 v417
  let c16_i32_193 : BitVec 32 := 16#32
  let c0_i32_196 : BitVec 32 := 0#32
  let v419 : BitVec 1 := Scalar.cmpi .sgt c16_i32_193 c0_i32_196
  let v420 : BitVec 32 := Scalar.extui v419
  let c0_i32_197 : BitVec 32 := 0#32
  let v421 : BitVec 1 := Scalar.cmpi .slt c16_i32_193 c0_i32_197
  let v422 : BitVec 32 := Scalar.extui v421
  let v423 : BitVec 32 := Scalar.subi v420 v422
  let v424 : BitVec 1 := Scalar.cmpi .ne v418 v423
  let v425 : BitVec 32 := Scalar.remsi v410 c16_i32_193
  let c0_i32_198 : BitVec 32 := 0#32
  let v426 : BitVec 1 := Scalar.cmpi .ne v425 c0_i32_198
  let v427 : BitVec 1 := Scalar.andi v424 v426
  let v413 : BitVec 32 := Scalar.divsi v410 c16_i32_193
  let c1_i32_199 : BitVec 32 := 1#32
  let v428 : BitVec 32 := Scalar.subi v413 c1_i32_199
  let v429 : BitVec 32 := Scalar.select v427 v428 v413
  let c16_i32_200 : BitVec 32 := 16#32
  let v430 : BitVec 32 := Scalar.muli v429 c16_i32_200
  v430

def k0_off10 (v410 : BitVec 32) : Fin 4 → Nat :=
  let c0_i32_194 : BitVec 32 := 0#32
  let v414 : BitVec 1 := Scalar.cmpi .sgt v410 c0_i32_194
  let v415 : BitVec 32 := Scalar.extui v414
  let c0_i32_195 : BitVec 32 := 0#32
  let v416 : BitVec 1 := Scalar.cmpi .slt v410 c0_i32_195
  let v417 : BitVec 32 := Scalar.extui v416
  let v418 : BitVec 32 := Scalar.subi v415 v417
  let c16_i32_193 : BitVec 32 := 16#32
  let c0_i32_196 : BitVec 32 := 0#32
  let v419 : BitVec 1 := Scalar.cmpi .sgt c16_i32_193 c0_i32_196
  let v420 : BitVec 32 := Scalar.extui v419
  let c0_i32_197 : BitVec 32 := 0#32
  let v421 : BitVec 1 := Scalar.cmpi .slt c16_i32_193 c0_i32_197
  let v422 : BitVec 32 := Scalar.extui v421
  let v423 : BitVec 32 := Scalar.subi v420 v422
  let v424 : BitVec 1 := Scalar.cmpi .ne v418 v423
  let v425 : BitVec 32 := Scalar.remsi v410 c16_i32_193
  let c0_i32_198 : BitVec 32 := 0#32
  let v426 : BitVec 1 := Scalar.cmpi .ne v425 c0_i32_198
  let v427 : BitVec 1 := Scalar.andi v424 v426
  let v413 : BitVec 32 := Scalar.divsi v410 c16_i32_193
  let c1_i32_199 : BitVec 32 := 1#32
  let v428 : BitVec 32 := Scalar.subi v413 c1_i32_199
  let v429 : BitVec 32 := Scalar.select v427 v428 v413
  let c16_i32_200 : BitVec 32 := 16#32
  let v430 : BitVec 32 := Scalar.muli v429 c16_i32_200
  let v431 : BitVec 32 := v430
  let v432 : BitVec 32 := Scalar.subi v410 v431
  let v433 : Index := Scalar.indexCast v432
  let c0_201 : Index := 0#32
  let v434 : Index := Scalar.indexCast v431
  let c0_202 : Index := 0#32
  ![v433.toNat, 0, v434.toNat, 0]

def k0_chk5 (v410 : BitVec 32) : Prop :=
  (16 ∣ (k0_mult5 v410).toNat) ∧
  (∀ a, (k0_off10 v410) a + S1x4x128x512.size a ≤ S16x4x512x512.size a)
theorem k0_mult5_dvd : ∀ (v410 : BitVec 32) (k0_hw5 : k0_chk5 v410), 16 ∣ (k0_mult5 v410).toNat := fun v410 k0_hw5 => k0_hw5.1
theorem k0_off10_inb : ∀ (v410 : BitVec 32) (k0_hw5 : k0_chk5 v410), ∀ a, (k0_off10 v410) a + S1x4x128x512.size a ≤ S16x4x512x512.size a := fun v410 k0_hw5 => k0_hw5.2

def k0_off11 (i : grid0.Coords) : Fin 1 → Nat :=
  let arg0 : BitVec 32 := BitVec.ofNat 32 (i 0).val
  let c8_i32_240 : BitVec 32 := 8#32
  let v508 : BitVec 32 := Scalar.muli arg0 c8_i32_240
  let c5_i32 : BitVec 32 := 5#32
  let v509 : BitVec 32 := Scalar.addi v508 c5_i32
  let v510 : Index := Scalar.indexCast v509
  ![v510.toNat]
def k0_mult6 (v511 : BitVec 32) : BitVec 32 :=
  let c0_i32_242 : BitVec 32 := 0#32
  let v515 : BitVec 1 := Scalar.cmpi .sgt v511 c0_i32_242
  let v516 : BitVec 32 := Scalar.extui v515
  let c0_i32_243 : BitVec 32 := 0#32
  let v517 : BitVec 1 := Scalar.cmpi .slt v511 c0_i32_243
  let v518 : BitVec 32 := Scalar.extui v517
  let v519 : BitVec 32 := Scalar.subi v516 v518
  let c16_i32_241 : BitVec 32 := 16#32
  let c0_i32_244 : BitVec 32 := 0#32
  let v520 : BitVec 1 := Scalar.cmpi .sgt c16_i32_241 c0_i32_244
  let v521 : BitVec 32 := Scalar.extui v520
  let c0_i32_245 : BitVec 32 := 0#32
  let v522 : BitVec 1 := Scalar.cmpi .slt c16_i32_241 c0_i32_245
  let v523 : BitVec 32 := Scalar.extui v522
  let v524 : BitVec 32 := Scalar.subi v521 v523
  let v525 : BitVec 1 := Scalar.cmpi .ne v519 v524
  let v526 : BitVec 32 := Scalar.remsi v511 c16_i32_241
  let c0_i32_246 : BitVec 32 := 0#32
  let v527 : BitVec 1 := Scalar.cmpi .ne v526 c0_i32_246
  let v528 : BitVec 1 := Scalar.andi v525 v527
  let v514 : BitVec 32 := Scalar.divsi v511 c16_i32_241
  let c1_i32_247 : BitVec 32 := 1#32
  let v529 : BitVec 32 := Scalar.subi v514 c1_i32_247
  let v530 : BitVec 32 := Scalar.select v528 v529 v514
  let c16_i32_248 : BitVec 32 := 16#32
  let v531 : BitVec 32 := Scalar.muli v530 c16_i32_248
  v531

def k0_off12 (v511 : BitVec 32) : Fin 4 → Nat :=
  let c0_i32_242 : BitVec 32 := 0#32
  let v515 : BitVec 1 := Scalar.cmpi .sgt v511 c0_i32_242
  let v516 : BitVec 32 := Scalar.extui v515
  let c0_i32_243 : BitVec 32 := 0#32
  let v517 : BitVec 1 := Scalar.cmpi .slt v511 c0_i32_243
  let v518 : BitVec 32 := Scalar.extui v517
  let v519 : BitVec 32 := Scalar.subi v516 v518
  let c16_i32_241 : BitVec 32 := 16#32
  let c0_i32_244 : BitVec 32 := 0#32
  let v520 : BitVec 1 := Scalar.cmpi .sgt c16_i32_241 c0_i32_244
  let v521 : BitVec 32 := Scalar.extui v520
  let c0_i32_245 : BitVec 32 := 0#32
  let v522 : BitVec 1 := Scalar.cmpi .slt c16_i32_241 c0_i32_245
  let v523 : BitVec 32 := Scalar.extui v522
  let v524 : BitVec 32 := Scalar.subi v521 v523
  let v525 : BitVec 1 := Scalar.cmpi .ne v519 v524
  let v526 : BitVec 32 := Scalar.remsi v511 c16_i32_241
  let c0_i32_246 : BitVec 32 := 0#32
  let v527 : BitVec 1 := Scalar.cmpi .ne v526 c0_i32_246
  let v528 : BitVec 1 := Scalar.andi v525 v527
  let v514 : BitVec 32 := Scalar.divsi v511 c16_i32_241
  let c1_i32_247 : BitVec 32 := 1#32
  let v529 : BitVec 32 := Scalar.subi v514 c1_i32_247
  let v530 : BitVec 32 := Scalar.select v528 v529 v514
  let c16_i32_248 : BitVec 32 := 16#32
  let v531 : BitVec 32 := Scalar.muli v530 c16_i32_248
  let v532 : BitVec 32 := v531
  let v533 : BitVec 32 := Scalar.subi v511 v532
  let v534 : Index := Scalar.indexCast v533
  let c0_249 : Index := 0#32
  let v535 : Index := Scalar.indexCast v532
  let c0_250 : Index := 0#32
  ![v534.toNat, 0, v535.toNat, 0]

def k0_chk6 (v511 : BitVec 32) : Prop :=
  (16 ∣ (k0_mult6 v511).toNat) ∧
  (∀ a, (k0_off12 v511) a + S1x4x128x512.size a ≤ S16x4x512x512.size a)
theorem k0_mult6_dvd : ∀ (v511 : BitVec 32) (k0_hw6 : k0_chk6 v511), 16 ∣ (k0_mult6 v511).toNat := fun v511 k0_hw6 => k0_hw6.1
theorem k0_off12_inb : ∀ (v511 : BitVec 32) (k0_hw6 : k0_chk6 v511), ∀ a, (k0_off12 v511) a + S1x4x128x512.size a ≤ S16x4x512x512.size a := fun v511 k0_hw6 => k0_hw6.2

def k0_off13 (i : grid0.Coords) : Fin 1 → Nat :=
  let arg0 : BitVec 32 := BitVec.ofNat 32 (i 0).val
  let c8_i32_288 : BitVec 32 := 8#32
  let v609 : BitVec 32 := Scalar.muli arg0 c8_i32_288
  let c6_i32 : BitVec 32 := 6#32
  let v610 : BitVec 32 := Scalar.addi v609 c6_i32
  let v611 : Index := Scalar.indexCast v610
  ![v611.toNat]
def k0_mult7 (v612 : BitVec 32) : BitVec 32 :=
  let c0_i32_290 : BitVec 32 := 0#32
  let v616 : BitVec 1 := Scalar.cmpi .sgt v612 c0_i32_290
  let v617 : BitVec 32 := Scalar.extui v616
  let c0_i32_291 : BitVec 32 := 0#32
  let v618 : BitVec 1 := Scalar.cmpi .slt v612 c0_i32_291
  let v619 : BitVec 32 := Scalar.extui v618
  let v620 : BitVec 32 := Scalar.subi v617 v619
  let c16_i32_289 : BitVec 32 := 16#32
  let c0_i32_292 : BitVec 32 := 0#32
  let v621 : BitVec 1 := Scalar.cmpi .sgt c16_i32_289 c0_i32_292
  let v622 : BitVec 32 := Scalar.extui v621
  let c0_i32_293 : BitVec 32 := 0#32
  let v623 : BitVec 1 := Scalar.cmpi .slt c16_i32_289 c0_i32_293
  let v624 : BitVec 32 := Scalar.extui v623
  let v625 : BitVec 32 := Scalar.subi v622 v624
  let v626 : BitVec 1 := Scalar.cmpi .ne v620 v625
  let v627 : BitVec 32 := Scalar.remsi v612 c16_i32_289
  let c0_i32_294 : BitVec 32 := 0#32
  let v628 : BitVec 1 := Scalar.cmpi .ne v627 c0_i32_294
  let v629 : BitVec 1 := Scalar.andi v626 v628
  let v615 : BitVec 32 := Scalar.divsi v612 c16_i32_289
  let c1_i32_295 : BitVec 32 := 1#32
  let v630 : BitVec 32 := Scalar.subi v615 c1_i32_295
  let v631 : BitVec 32 := Scalar.select v629 v630 v615
  let c16_i32_296 : BitVec 32 := 16#32
  let v632 : BitVec 32 := Scalar.muli v631 c16_i32_296
  v632

def k0_off14 (v612 : BitVec 32) : Fin 4 → Nat :=
  let c0_i32_290 : BitVec 32 := 0#32
  let v616 : BitVec 1 := Scalar.cmpi .sgt v612 c0_i32_290
  let v617 : BitVec 32 := Scalar.extui v616
  let c0_i32_291 : BitVec 32 := 0#32
  let v618 : BitVec 1 := Scalar.cmpi .slt v612 c0_i32_291
  let v619 : BitVec 32 := Scalar.extui v618
  let v620 : BitVec 32 := Scalar.subi v617 v619
  let c16_i32_289 : BitVec 32 := 16#32
  let c0_i32_292 : BitVec 32 := 0#32
  let v621 : BitVec 1 := Scalar.cmpi .sgt c16_i32_289 c0_i32_292
  let v622 : BitVec 32 := Scalar.extui v621
  let c0_i32_293 : BitVec 32 := 0#32
  let v623 : BitVec 1 := Scalar.cmpi .slt c16_i32_289 c0_i32_293
  let v624 : BitVec 32 := Scalar.extui v623
  let v625 : BitVec 32 := Scalar.subi v622 v624
  let v626 : BitVec 1 := Scalar.cmpi .ne v620 v625
  let v627 : BitVec 32 := Scalar.remsi v612 c16_i32_289
  let c0_i32_294 : BitVec 32 := 0#32
  let v628 : BitVec 1 := Scalar.cmpi .ne v627 c0_i32_294
  let v629 : BitVec 1 := Scalar.andi v626 v628
  let v615 : BitVec 32 := Scalar.divsi v612 c16_i32_289
  let c1_i32_295 : BitVec 32 := 1#32
  let v630 : BitVec 32 := Scalar.subi v615 c1_i32_295
  let v631 : BitVec 32 := Scalar.select v629 v630 v615
  let c16_i32_296 : BitVec 32 := 16#32
  let v632 : BitVec 32 := Scalar.muli v631 c16_i32_296
  let v633 : BitVec 32 := v632
  let v634 : BitVec 32 := Scalar.subi v612 v633
  let v635 : Index := Scalar.indexCast v634
  let c0_297 : Index := 0#32
  let v636 : Index := Scalar.indexCast v633
  let c0_298 : Index := 0#32
  ![v635.toNat, 0, v636.toNat, 0]

def k0_chk7 (v612 : BitVec 32) : Prop :=
  (16 ∣ (k0_mult7 v612).toNat) ∧
  (∀ a, (k0_off14 v612) a + S1x4x128x512.size a ≤ S16x4x512x512.size a)
theorem k0_mult7_dvd : ∀ (v612 : BitVec 32) (k0_hw7 : k0_chk7 v612), 16 ∣ (k0_mult7 v612).toNat := fun v612 k0_hw7 => k0_hw7.1
theorem k0_off14_inb : ∀ (v612 : BitVec 32) (k0_hw7 : k0_chk7 v612), ∀ a, (k0_off14 v612) a + S1x4x128x512.size a ≤ S16x4x512x512.size a := fun v612 k0_hw7 => k0_hw7.2

def k0_off15 (i : grid0.Coords) : Fin 1 → Nat :=
  let arg0 : BitVec 32 := BitVec.ofNat 32 (i 0).val
  let c8_i32_336 : BitVec 32 := 8#32
  let v710 : BitVec 32 := Scalar.muli arg0 c8_i32_336
  let c7_i32 : BitVec 32 := 7#32
  let v711 : BitVec 32 := Scalar.addi v710 c7_i32
  let v712 : Index := Scalar.indexCast v711
  ![v712.toNat]
def k0_mult8 (v713 : BitVec 32) : BitVec 32 :=
  let c0_i32_338 : BitVec 32 := 0#32
  let v717 : BitVec 1 := Scalar.cmpi .sgt v713 c0_i32_338
  let v718 : BitVec 32 := Scalar.extui v717
  let c0_i32_339 : BitVec 32 := 0#32
  let v719 : BitVec 1 := Scalar.cmpi .slt v713 c0_i32_339
  let v720 : BitVec 32 := Scalar.extui v719
  let v721 : BitVec 32 := Scalar.subi v718 v720
  let c16_i32_337 : BitVec 32 := 16#32
  let c0_i32_340 : BitVec 32 := 0#32
  let v722 : BitVec 1 := Scalar.cmpi .sgt c16_i32_337 c0_i32_340
  let v723 : BitVec 32 := Scalar.extui v722
  let c0_i32_341 : BitVec 32 := 0#32
  let v724 : BitVec 1 := Scalar.cmpi .slt c16_i32_337 c0_i32_341
  let v725 : BitVec 32 := Scalar.extui v724
  let v726 : BitVec 32 := Scalar.subi v723 v725
  let v727 : BitVec 1 := Scalar.cmpi .ne v721 v726
  let v728 : BitVec 32 := Scalar.remsi v713 c16_i32_337
  let c0_i32_342 : BitVec 32 := 0#32
  let v729 : BitVec 1 := Scalar.cmpi .ne v728 c0_i32_342
  let v730 : BitVec 1 := Scalar.andi v727 v729
  let v716 : BitVec 32 := Scalar.divsi v713 c16_i32_337
  let c1_i32_343 : BitVec 32 := 1#32
  let v731 : BitVec 32 := Scalar.subi v716 c1_i32_343
  let v732 : BitVec 32 := Scalar.select v730 v731 v716
  let c16_i32_344 : BitVec 32 := 16#32
  let v733 : BitVec 32 := Scalar.muli v732 c16_i32_344
  v733

def k0_off16 (v713 : BitVec 32) : Fin 4 → Nat :=
  let c0_i32_338 : BitVec 32 := 0#32
  let v717 : BitVec 1 := Scalar.cmpi .sgt v713 c0_i32_338
  let v718 : BitVec 32 := Scalar.extui v717
  let c0_i32_339 : BitVec 32 := 0#32
  let v719 : BitVec 1 := Scalar.cmpi .slt v713 c0_i32_339
  let v720 : BitVec 32 := Scalar.extui v719
  let v721 : BitVec 32 := Scalar.subi v718 v720
  let c16_i32_337 : BitVec 32 := 16#32
  let c0_i32_340 : BitVec 32 := 0#32
  let v722 : BitVec 1 := Scalar.cmpi .sgt c16_i32_337 c0_i32_340
  let v723 : BitVec 32 := Scalar.extui v722
  let c0_i32_341 : BitVec 32 := 0#32
  let v724 : BitVec 1 := Scalar.cmpi .slt c16_i32_337 c0_i32_341
  let v725 : BitVec 32 := Scalar.extui v724
  let v726 : BitVec 32 := Scalar.subi v723 v725
  let v727 : BitVec 1 := Scalar.cmpi .ne v721 v726
  let v728 : BitVec 32 := Scalar.remsi v713 c16_i32_337
  let c0_i32_342 : BitVec 32 := 0#32
  let v729 : BitVec 1 := Scalar.cmpi .ne v728 c0_i32_342
  let v730 : BitVec 1 := Scalar.andi v727 v729
  let v716 : BitVec 32 := Scalar.divsi v713 c16_i32_337
  let c1_i32_343 : BitVec 32 := 1#32
  let v731 : BitVec 32 := Scalar.subi v716 c1_i32_343
  let v732 : BitVec 32 := Scalar.select v730 v731 v716
  let c16_i32_344 : BitVec 32 := 16#32
  let v733 : BitVec 32 := Scalar.muli v732 c16_i32_344
  let v734 : BitVec 32 := v733
  let v735 : BitVec 32 := Scalar.subi v713 v734
  let v736 : Index := Scalar.indexCast v735
  let c0_345 : Index := 0#32
  let v737 : Index := Scalar.indexCast v734
  let c0_346 : Index := 0#32
  ![v736.toNat, 0, v737.toNat, 0]

def k0_chk8 (v713 : BitVec 32) : Prop :=
  (16 ∣ (k0_mult8 v713).toNat) ∧
  (∀ a, (k0_off16 v713) a + S1x4x128x512.size a ≤ S16x4x512x512.size a)
theorem k0_mult8_dvd : ∀ (v713 : BitVec 32) (k0_hw8 : k0_chk8 v713), 16 ∣ (k0_mult8 v713).toNat := fun v713 k0_hw8 => k0_hw8.1
theorem k0_off16_inb : ∀ (v713 : BitVec 32) (k0_hw8 : k0_chk8 v713), ∀ a, (k0_off16 v713) a + S1x4x128x512.size a ≤ S16x4x512x512.size a := fun v713 k0_hw8 => k0_hw8.2

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .smem S128 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S128 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x16384 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x16384 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x4 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S8x1x64 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S64x64 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x1 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x64 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1024x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S3x131072 .i32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== ReferenceIdeal.lean ====
abbrev S2x512x512 : Shape := ⟨3, ![2, 512, 512]⟩
abbrev S128x2 : Shape := ⟨2, ![128, 2]⟩
abbrev S4x64 : Shape := ⟨2, ![4, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S128x1 : Shape := ⟨2, ![128, 1]⟩
abbrev S128 : Shape := ⟨1, ![128]⟩
abbrev S_ : Shape := ⟨0, ![]⟩
abbrev S128x128 : Shape := ⟨2, ![128, 128]⟩
abbrev S1x128x128 : Shape := ⟨3, ![1, 128, 128]⟩
abbrev S2x128x128 : Shape := ⟨3, ![2, 128, 128]⟩
abbrev S2x1x16384 : Shape := ⟨3, ![2, 1, 16384]⟩
abbrev S2x128 : Shape := ⟨2, ![2, 128]⟩
abbrev S2x128x1 : Shape := ⟨3, ![2, 128, 1]⟩
abbrev S2x128x16384 : Shape := ⟨3, ![2, 128, 16384]⟩
abbrev S2x2097152 : Shape := ⟨2, ![2, 2097152]⟩
abbrev S4x512x512 : Shape := ⟨3, ![4, 512, 512]⟩
abbrev S1x2097152 : Shape := ⟨2, ![1, 2097152]⟩
abbrev S2097152 : Shape := ⟨1, ![2097152]⟩
abbrev S2097152x1 : Shape := ⟨2, ![2097152, 1]⟩
abbrev S2097152x2 : Shape := ⟨2, ![2097152, 2]⟩
abbrev S4x2097152 : Shape := ⟨2, ![4, 2097152]⟩
abbrev S4x128x128x128 : Shape := ⟨4, ![4, 128, 128, 128]⟩
abbrev S128x4x128x128 : Shape := ⟨4, ![128, 4, 128, 128]⟩
abbrev S128x2x1x1 : Shape := ⟨4, ![128, 2, 1, 1]⟩
abbrev S128x2x128x128 : Shape := ⟨4, ![128, 2, 128, 128]⟩
abbrev S128x128x128x4 : Shape := ⟨4, ![128, 128, 128, 4]⟩
abbrev S2097152x4 : Shape := ⟨2, ![2097152, 4]⟩
abbrev S2097152x64 : Shape := ⟨2, ![2097152, 64]⟩
abbrev S1x64 : Shape := ⟨2, ![1, 64]⟩
abbrev S1x1 : Shape := ⟨2, ![1, 1]⟩
abbrev S128x1x128x128 : Shape := ⟨4, ![128, 1, 128, 128]⟩
abbrev S128x1x1 : Shape := ⟨3, ![128, 1, 1]⟩
abbrev S128x128x128 : Shape := ⟨3, ![128, 128, 128]⟩
abbrev S3x2097152 : Shape := ⟨2, ![3, 2097152]⟩

abbrev nBuf : Space → Nat
  | .hbm => 115
  | .vmem => 0
  | .smem => 0
  | _ => 0

abbrev bufTy : (tb : Table) → Fin (tcTables nBuf tb) → BufTy
  | .hbm, ⟨0, _⟩ => ⟨S2x512x512, .f32⟩
  | .hbm, ⟨1, _⟩ => ⟨S2x512x512, .f32⟩
  | .hbm, ⟨2, _⟩ => ⟨S128x2, .f32⟩
  | .hbm, ⟨3, _⟩ => ⟨S128x2, .i32⟩
  | .hbm, ⟨4, _⟩ => ⟨S4x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x1, .f32⟩
  | .hbm, ⟨9, _⟩ => ⟨S1, .f32⟩
  | .hbm, ⟨10, _⟩ => ⟨S128x1, .i32⟩
  | .hbm, ⟨11, _⟩ => ⟨S128, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S128, .i32⟩
  | .hbm, ⟨16, _⟩ => ⟨S128, .i32⟩
  | .hbm, ⟨17, _⟩ => ⟨S_, .i32⟩
  | .hbm, ⟨18, _⟩ => ⟨S128, .i32⟩
  | .hbm, ⟨19, _⟩ => ⟨S128, .i32⟩
  | .hbm, ⟨20, _⟩ => ⟨S128x1, .i32⟩
  | .hbm, ⟨21, _⟩ => ⟨S128, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S128, .i32⟩
  | .hbm, ⟨26, _⟩ => ⟨S128, .i32⟩
  | .hbm, ⟨27, _⟩ => ⟨S_, .i32⟩
  | .hbm, ⟨28, _⟩ => ⟨S128, .i32⟩
  | .hbm, ⟨29, _⟩ => ⟨S128, .i32⟩
  | .hbm, ⟨30, _⟩ => ⟨S128x1, .i32⟩
  | .hbm, ⟨31, _⟩ => ⟨S128x1, .i32⟩
  | .hbm, ⟨32, _⟩ => ⟨S128x2, .i32⟩
  | .hbm, ⟨33, _⟩ => ⟨S_, .i32⟩
  | .hbm, ⟨34, _⟩ => ⟨S128x2, .i32⟩
  | .hbm, ⟨35, _⟩ => ⟨S128x2, .i32⟩
  | .hbm, ⟨36, _⟩ => ⟨S128, .i32⟩
  | .hbm, ⟨37, _⟩ => ⟨S128, .i32⟩
  | .hbm, ⟨38, _⟩ => ⟨S128x128, .i32⟩
  | .hbm, ⟨39, _⟩ => ⟨S128x128, .i32⟩
  | .hbm, ⟨40, _⟩ => ⟨S1x128x128, .i32⟩
  | .hbm, ⟨41, _⟩ => ⟨S1x128x128, .i32⟩
  | .hbm, ⟨42, _⟩ => ⟨S2x128x128, .i32⟩
  | .hbm, ⟨43, _⟩ => ⟨S2x1x16384, .i32⟩
  | .hbm, ⟨44, _⟩ => ⟨S2x128, .i32⟩
  | .hbm, ⟨45, _⟩ => ⟨S2x128x1, .i32⟩
  | .hbm, ⟨46, _⟩ => ⟨S2x128x16384, .i32⟩
  | .hbm, ⟨47, _⟩ => ⟨S2x128x16384, .i32⟩
  | .hbm, ⟨48, _⟩ => ⟨S2x128x16384, .i32⟩
  | .hbm, ⟨49, _⟩ => ⟨S2x2097152, .i32⟩
  | .hbm, ⟨50, _⟩ => ⟨S4x512x512, .f32⟩
  | .hbm, ⟨51, _⟩ => ⟨S1x2097152, .i32⟩
  | .hbm, ⟨52, _⟩ => ⟨S2097152, .i32⟩
  | .hbm, ⟨53, _⟩ => ⟨S1x2097152, .i32⟩
  | .hbm, ⟨54, _⟩ => ⟨S2097152, .i32⟩
  | .hbm, ⟨55, _⟩ => ⟨S_, .i32⟩
  | .hbm, ⟨56, _⟩ => ⟨S2097152, .i32⟩
  | .hbm, ⟨57, _⟩ => ⟨S2097152, .i1⟩
  | .hbm, ⟨58, _⟩ => ⟨S_, .i32⟩
  | .hbm, ⟨59, _⟩ => ⟨S2097152, .i32⟩
  | .hbm, ⟨60, _⟩ => ⟨S2097152, .i32⟩
  | .hbm, ⟨61, _⟩ => ⟨S2097152, .i32⟩
  | .hbm, ⟨62, _⟩ => ⟨S_, .i32⟩
  | .hbm, ⟨63, _⟩ => ⟨S2097152, .i32⟩
  | .hbm, ⟨64, _⟩ => ⟨S2097152, .i1⟩
  | .hbm, ⟨65, _⟩ => ⟨S_, .i32⟩
  | .hbm, ⟨66, _⟩ => ⟨S2097152, .i32⟩
  | .hbm, ⟨67, _⟩ => ⟨S2097152, .i32⟩
  | .hbm, ⟨68, _⟩ => ⟨S2097152, .i32⟩
  | .hbm, ⟨69, _⟩ => ⟨S2097152x1, .i32⟩
  | .hbm, ⟨70, _⟩ => ⟨S2097152x1, .i32⟩
  | .hbm, ⟨71, _⟩ => ⟨S2097152x2, .i32⟩
  | .hbm, ⟨72, _⟩ => ⟨S4x2097152, .f32⟩
  | .hbm, ⟨73, _⟩ => ⟨S4x128x128x128, .f32⟩
  | .hbm, ⟨74, _⟩ => ⟨S128x4x128x128, .f32⟩
  | .hbm, ⟨75, _⟩ => ⟨S128x2x1x1, .f32⟩
  | .hbm, ⟨76, _⟩ => ⟨S128x2x1x1, .f32⟩
  | .hbm, ⟨77, _⟩ => ⟨S_, .i32⟩
  | .hbm, ⟨78, _⟩ => ⟨S1, .i32⟩
  | .hbm, ⟨79, _⟩ => ⟨S128x2x128x128, .f32⟩
  | .hbm, ⟨80, _⟩ => ⟨S128x4x128x128, .f32⟩
  | .hbm, ⟨81, _⟩ => ⟨S128x128x128x4, .f32⟩
  | .hbm, ⟨82, _⟩ => ⟨S2097152x4, .f32⟩
  | .hbm, ⟨83, _⟩ => ⟨S2097152x64, .f32⟩
  | .hbm, ⟨84, _⟩ => ⟨S1x64, .f32⟩
  | .hbm, ⟨85, _⟩ => ⟨S2097152x64, .f32⟩
  | .hbm, ⟨86, _⟩ => ⟨S2097152x64, .f32⟩
  | .hbm, ⟨87, _⟩ => ⟨S_, .f32⟩
  | .hbm, ⟨88, _⟩ => ⟨S2097152x64, .f32⟩
  | .hbm, ⟨89, _⟩ => ⟨S2097152x64, .f32⟩
  | .hbm, ⟨90, _⟩ => ⟨S2097152x64, .f32⟩
  | .hbm, ⟨91, _⟩ => ⟨S1x64, .f32⟩
  | .hbm, ⟨92, _⟩ => ⟨S2097152x64, .f32⟩
  | .hbm, ⟨93, _⟩ => ⟨S2097152x64, .f32⟩
  | .hbm, ⟨94, _⟩ => ⟨S_, .f32⟩
  | .hbm, ⟨95, _⟩ => ⟨S2097152x64, .f32⟩
  | .hbm, ⟨96, _⟩ => ⟨S2097152x64, .f32⟩
  | .hbm, ⟨97, _⟩ => ⟨S2097152x1, .f32⟩
  | .hbm, ⟨98, _⟩ => ⟨S1x1, .f32⟩
  | .hbm, ⟨99, _⟩ => ⟨S2097152x1, .f32⟩
  | .hbm, ⟨100, _⟩ => ⟨S2097152x1, .f32⟩
  | .hbm, ⟨101, _⟩ => ⟨S2097152x1, .f32⟩
  | .hbm, ⟨102, _⟩ => ⟨S2097152x1, .f32⟩
  | .hbm, ⟨103, _⟩ => ⟨S_, .f32⟩
  | .hbm, ⟨104, _⟩ => ⟨S2097152x1, .f32⟩
  | .hbm, ⟨105, _⟩ => ⟨S2097152x1, .f32⟩
  | .hbm, ⟨106, _⟩ => ⟨S_, .f32⟩
  | .hbm, ⟨107, _⟩ => ⟨S2097152x1, .f32⟩
  | .hbm, ⟨108, _⟩ => ⟨S2097152x1, .f32⟩
  | .hbm, ⟨109, _⟩ => ⟨S128x1x128x128, .f32⟩
  | .hbm, ⟨110, _⟩ => ⟨S128, .i32⟩
  | .hbm, ⟨111, _⟩ => ⟨S128x1x1, .i32⟩
  | .hbm, ⟨112, _⟩ => ⟨S128x128x128, .i32⟩
  | .hbm, ⟨113, _⟩ => ⟨S1x2097152, .i32⟩
  | .hbm, ⟨114, _⟩ => ⟨S3x2097152, .i32⟩
  | _, _ => ⟨S2x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_c_0 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_c_1 : Ref sig .tc := ⟨.hbm, 22, rfl⟩
abbrev main_c_2 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_call1_v3 : Ref sig .tc := ⟨.hbm, 27, rfl⟩
abbrev main_call1_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_c_3 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_c_4 : Ref sig .tc := ⟨.hbm, 55, rfl⟩
abbrev main_v30 : Ref sig .tc := ⟨.hbm, 56, rfl⟩
abbrev main_v31 : Ref sig .tc := ⟨.hbm, 57, rfl⟩
abbrev main_c_5 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_c_6 : Ref sig .tc := ⟨.hbm, 62, rfl⟩
abbrev main_v35 : Ref sig .tc := ⟨.hbm, 63, rfl⟩
abbrev main_v36 : Ref sig .tc := ⟨.hbm, 64, rfl⟩
abbrev main_c_7 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_c_8 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_call2_cst : Ref sig .tc := ⟨.hbm, 87, rfl⟩
abbrev main_call2_v0 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_call3_cst : Ref sig .tc := ⟨.hbm, 94, rfl⟩
abbrev main_call3_v0 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_cst : Ref sig .tc := ⟨.hbm, 103, rfl⟩
abbrev main_v69 : Ref sig .tc := ⟨.hbm, 104, rfl⟩
abbrev main_v70 : Ref sig .tc := ⟨.hbm, 105, rfl⟩
abbrev main_cst_9 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩

abbrev nD : Nat := 1
abbrev τ : Topo := Topo.v7x

variable {F : FTy → Type} [FloatOps F]
-- ==== Proof.Ideal.Content.lean ====
module

public import proofs.«01_k».proof.Proof.Gen.KernelIdeal.Skeleton
public import Idealize.ShloMosaic.Lib.Pointwise
public import Idealize.ShloMosaic.Lib.WholeRead

/-! What one grid step of the kernel leaves in its buffers, written as functions of the blocks it reads. Each function
is stated once for all eight crops of a step (and once for all sixteen shifted copies of the image in the scratch). -/

@[expose] public section

set_option maxRecDepth 16384

noncomputable section

namespace Cert.KernelIdeal.Body

open Cert.KernelIdeal Cert.KernelIdeal.Gen
open Idealize.ShloMosaic Idealize.ShloMosaic.TcCoe Idealize.ShloMosaic.Tactic

variable {F : FTy → Type} [FloatOps F]

/-- Entry `n` of a table of 128 words. -/
def word (x : Vec F S128 .i32) (n : ℕ) : BitVec 32 := x (ix1 (Fin.ofNat 128 n))

/-- Row `j` of the eight bias rows of a step. -/
def b1Row (x : Vec F S8x1x64 .bf16) (j : ℕ) : Vec F S1x1x64 .bf16 := fun z => x (ix3 (Fin.ofNat 8 j) 0 (z 2))

/-- The sixteen shifted copies of the stacked image: copy `s` is the image moved up by `s` rows, cyclically. -/
def shifted (X Y : Vec F S2x512x512 .f32) : Vec F S16x4x512x512 .bf16 :=
  fun z => k0_pay2 X Y (ix3 (z 1) (Fin.ofNat 512 ((z 2).val + (z 0).val)) (z 3))

/-- The 128 full rows that start at row `t` of the image, as the kernel reads them: from copy `t % 16`, at the multiple of
sixteen below `t`. -/
def slab (xs : Vec F S16x4x512x512 .bf16) (t : ℕ) : Vec F S1x4x128x512 .bf16 :=
  fun z => xs (ix4 (Fin.ofNat 16 t) (z 1) (Fin.ofNat 512 (t / 16 * 16 + (z 2).val)) (z 3))

/-- One crop's probabilities from its left column, its slab of rows and the layers' weights. -/
def prob (l : BitVec 32) (sl : Vec F S1x4x128x512 .bf16) (w1 : Vec F S64x4 .bf16) (b1 : Vec F S1x1x64 .bf16)
    (w2 : Vec F S64x64 .bf16) (b2 : Vec F S64x1 .bf16) (w3 : Vec F S1x64 .bf16) (b3 : Vec F S1x1 .f32) : Vec F S128x128 .f32 :=
  k0_pay27 (k0_pay25 l sl w1) (k0_pay26 b1) w2 b2 w3 b3

/-- The block of probabilities of step `i`: rows `128 j … 128 j + 127` are crop `8 i + j`'s. -/
def probBlk (i : ℕ) (x0 x1 : Vec F S128 .i32) (x6 : Vec F S64x4 .bf16) (x7 : Vec F S8x1x64 .bf16) (x8 : Vec F S64x64 .bf16)
    (x9 : Vec F S64x1 .bf16) (x10 : Vec F S1x64 .bf16) (x11 : Vec F S1x1 .f32) (xs : Vec F S16x4x512x512 .bf16) :
    Vec F S1024x128 .f32 :=
  fun y => prob (word x1 (8 * i + (y 0).val / 128)) (slab xs (word x0 (8 * i + (y 0).val / 128)).toNat) x6
    (b1Row x7 ((y 0).val / 128)) x8 x9 x10 x11 (ix2 (Fin.ofNat 128 (y 0).val) (y 1))

/-- The block of indices of step `i`: for crop `n = 8 i + j`, at pixel `p`, the crop's number, its pixel's row and its
pixel's column. -/
def idBlk (i : ℕ) (x0 x1 : Vec F S128 .i32) (x2 x3 : Vec F S1x16384 .i32) : Vec F S3x131072 .i32 :=
  fun y =>
    if (y 0).val = 0 then BitVec.ofNat 32 (8 * i + (y 1).val / 16384)
    else if (y 0).val = 1 then Scalar.addi (x2 (ix2 0 (Fin.ofNat 16384 (y 1).val))) (word x0 (8 * i + (y 1).val / 16384))
    else Scalar.addi (x3 (ix2 0 (Fin.ofNat 16384 (y 1).val))) (word x1 (8 * i + (y 1).val / 16384))

section Reads

variable {sig : RefSig} {κ : Kind} {sp : Space} {s : Shape} {e : EltTy} {Val : EltTy → Type} {m : Memref sig κ sp s e}

/-- A load of a whole buffer reads its contents. -/
theorem readAt_all (h : m.IsWhole) (X : s.Idx → Val e) (off : Fin s.rank → ℕ) (h0 : ∀ a, off a = 0) (inb) :
    View.readAt Val m.view (Rect.unit off s.size inb).toLoadRect (h.unread X) = X := by
  funext z
  rw [h.readAt_unread]
  congr 1
  funext a
  apply Fin.ext
  show off a + 1 * (z a).val = (z a).val
  rw [h0 a, Nat.zero_add, Nat.one_mul]

end Reads

/-- A word load at an offset reads the table's entry there. -/
theorem readAt_word {m : Memref sig .tc .smem S128 .i32} (h : m.IsWhole) (X : Vec F S128 .i32) (off : Fin 1 → ℕ) (inb) :
    View.readAt (Elt F) m.view (Rect.unit (s := S128) off S1.size inb).toLoadRect (h.unread X) = fun _ => word X (off 0) := by
  funext y
  rw [h.readAt_unread]
  unfold word
  congr 1
  funext a
  apply Fin.ext
  obtain rfl : a = 0 := Subsingleton.elim _ _
  have h1 : off 0 + 1 ≤ 128 := inb 0
  have h2 : (y 0).val < 1 := (y 0).isLt
  show off 0 + 1 * (y 0).val = off 0 % 128
  omega

/-- The load of one bias row. -/
theorem readAt_b1Row {m : Memref sig .tc .vmem S8x1x64 .bf16} (h : m.IsWhole) (X : Vec F S8x1x64 .bf16) (j : ℕ) (inb) :
    View.readAt (Elt F) m.view (Rect.unit (s := S8x1x64) ![j, 0, 0] S1x1x64.size inb).toLoadRect (h.unread X) = b1Row X j := by
  funext z
  rw [h.readAt_unread]
  unfold b1Row
  congr 1
  have h1 : j + 1 ≤ 8 := inb 0
  have h2 : (z 0).val < 1 := (z 0).isLt
  have h3 : (z 1).val < 1 := (z 1).isLt
  funext a
  apply Fin.ext
  fin_cases a
  · show j + 1 * (z 0).val = j % 8
    omega
  · show 0 + 1 * (z 1).val = 0
    omega
  · show 0 + 1 * (z 2).val = (z 2).val
    omega

/-- A load at a row's copy and group reads the row's slab, whatever raw contents read as the sixteen copies. -/
theorem readAt_slab {m : Memref sig .tc .vmem S16x4x512x512 .bf16} (f) (X : Vec F S16x4x512x512 .bf16)
    (hf : m.view.read (Elt F) f = X) (t : ℕ) (off : Fin 4 → ℕ) (hoff : off = ![t % 16, 0, t / 16 * 16, 0]) (inb) :
    View.readAt (Elt F) m.view (Rect.unit (s := S16x4x512x512) off S1x4x128x512.size inb).toLoadRect f = slab X t := by
  subst hoff hf
  funext z
  rw [View.readAt_apply]
  unfold slab
  congr 1
  have h1 : t / 16 * 16 + 128 ≤ 512 := inb 2
  have h2 : (z 0).val < 1 := (z 0).isLt
  have h3 : (z 2).val < 128 := (z 2).isLt
  funext a
  apply Fin.ext
  fin_cases a
  · show t % 16 + 1 * (z 0).val = t % 16
    omega
  · show 0 + 1 * (z 1).val = (z 1).val
    omega
  · show t / 16 * 16 + 1 * (z 2).val = (t / 16 * 16 + (z 2).val) % 512
    omega
  · show 0 + 1 * (z 3).val = (z 3).val
    omega

/-- Copy `s`, as it is stored: the image rotated down by `512 - s` rows. -/
theorem shifted_piece (X Y : Vec F S2x512x512 .f32) (s : ℕ) (n : BitVec 32) (hn : n.toNat = (512 - s) % 512) (inb)
    (x : S1x4x512x512.Idx) :
    shapeCast S1x4x512x512 (dynamicRotate 1 n none (k0_pay2 X Y) rotates_S4x512x512_d1) shapeCasts_S4x512x512_S1x4x512x512 x
      = shifted X Y ((Rect.unit (s := S16x4x512x512) ![s, 0, 0, 0] S1x4x512x512.size inb).emb x) := by
  have h0 : s + 1 ≤ 16 := inb 0
  unfold shifted
  generalize k0_pay2 X Y = A
  idx_vars x
  pointwise
  congr 1
  funext a
  apply Fin.ext
  fin_cases a
  · show x1.val = 0 + 1 * x1.val
    omega
  · show (x2.val + 512 - (n.toNat + 0) % 512) % 512 = ((0 + 1 * x2.val) + (s + 1 * x0.val)) % 512
    omega
  · show x3.val = 0 + 1 * x3.val
    omega

/-- Row offsets up to 384 pass the body's conditions on them, and the slab is read at the row's copy and group. -/
theorem chk_small (v : BitVec 32) (hv : v.toNat ≤ 384) :
    k0_chk1 v ∧ k0_off2 v = ![v.toNat % 16, 0, v.toNat / 16 * 16, 0] := by
  have H : ∀ n : Fin 385, k0_chk1 (BitVec.ofNat 32 n.val) ∧
      k0_off2 (BitVec.ofNat 32 n.val) = ![n.val % 16, 0, n.val / 16 * 16, 0] := by decide +kernel
  have h := H ⟨v.toNat, by omega⟩
  simp only [BitVec.ofNat_toNat, BitVec.setWidth_eq] at h
  exact h

end Cert.KernelIdeal.Body

end
-- ==== Proof.Ideal.Host.lean ====
module

public import proofs.«01_k».proof.Proof.Gen.KernelIdeal.Frame
public import proofs.«01_k».proof.Proof.Ideal.Content
public import Idealize.ShloMosaic.Lib.Claim
public import Idealize.ShloMosaic.Lib.StableHlo.RunRead

/-! The table of top rows that the kernel is handed: each entry is the crop's centre row held between 64 and 448, less 64. -/

@[expose] public section

set_option maxRecDepth 16384

noncomputable section

namespace Cert.KernelIdeal.Body

open Cert.KernelIdeal Cert.KernelIdeal.Gen
open Idealize.ShloMosaic Idealize.ShloMosaic.TcCoe Idealize.ShloMosaic.Tactic StableHlo

variable {F : FTy → Type} [FloatOps F]
variable (m : (ℓ : Loc nD τ sig) → Buf (Elt F) ℓ)

/-- A word held between 64 and 448 (as signed integers), then moved down by 64. -/
def clipped (x : BitVec 32) : BitVec 32 := IntOp.minsi 448#32 (IntOp.maxsi 64#32 x) - 64#32

/-- Whatever the word, the result is a natural number from 0 to 384. -/
theorem clipped_le (x : BitVec 32) : (clipped x).toNat ≤ 384 := by
  have h1 : (448#32).toInt = 448 := by decide
  have h2 : (64#32).toInt = 64 := by decide
  unfold clipped IntOp.minsi IntOp.maxsi
  simp only [BitVec.slt, h1, h2, decide_eq_true_eq]
  have hx := BitVec.toInt_eq_toNat_cond x
  have hl := x.isLt
  split_ifs with ha hb hb <;> simp_all <;> first | decide | (split at hx <;> bv_omega)

/-- The table of top rows, as the region finds it. -/
theorem V_tops (c : Dev nD) : V m c main_v4 = fun j : S128.Idx => clipped (m ((c : Thread nD τ).loc main_arg3) (ix2 (j 0) 0)) := by
  unfold_abbrev_sides
  simp only [List.flatten_cons, List.flatten_nil, List.append_nil, List.cons_append, List.nil_append]
  after_reads_simp
  funext j
  idx_vars j
  simp only [TRef.ofBuf, TRef.toBuf, cast_eq, id_eq]
  pointwise
  rfl

end Cert.KernelIdeal.Body
end
end
-- ==== Proof.Ideal.Fill.lean ====
module

public import proofs.«01_k».proof.Proof.Gen.KernelIdeal.Frame
public import proofs.«01_k».proof.Proof.Ideal.Content
public import Idealize.ShloMosaic.Lib.Tactic

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (arg1 : Memref sig .tc .smem S128 .i32) (harg1 : arg1.IsWhole)
  (arg2 : Memref sig .tc .smem S128 .i32) (harg2 : arg2.IsWhole)
  (arg3 : Memref sig .tc .vmem S1x16384 .i32) (harg3 : arg3.IsWhole)
  (arg4 : Memref sig .tc .vmem S1x16384 .i32) (harg4 : arg4.IsWhole)
  (arg5 : Memref sig .tc .vmem S2x512x512 .f32) (harg5 : arg5.IsWhole)
  (arg6 : Memref sig .tc .vmem S2x512x512 .f32) (harg6 : arg6.IsWhole)
  (arg7 : Memref sig .tc .vmem S64x4 .bf16) (harg7 : arg7.IsWhole)
  (arg8 : Memref sig .tc .vmem S8x1x64 .bf16) (harg8 : arg8.IsWhole)
  (arg9 : Memref sig .tc .vmem S64x64 .bf16) (harg9 : arg9.IsWhole)
  (arg10 : Memref sig .tc .vmem S64x1 .bf16) (harg10 : arg10.IsWhole)
  (arg11 : Memref sig .tc .vmem S1x64 .bf16) (harg11 : arg11.IsWhole)
  (arg12 : Memref sig .tc .vmem S1x1 .f32) (harg12 : arg12.IsWhole)
  (arg13 : Memref sig .tc .vmem S1024x128 .f32) (harg13 : arg13.IsWhole)
  (arg14 : Memref sig .tc .vmem S3x131072 .i32) (harg14 : arg14.IsWhole)
  (arg15 : Memref sig .tc .vmem S16x4x512x512 .bf16) (harg15 : arg15.IsWhole)

/-- The step fills the scratch: it is the grid's first. -/
abbrev First (i : grid0.Coords) : Prop :=
  (Scalar.cmpi .ne (Scalar.extui (Scalar.cmpi .eq (BitVec.ofNat 32 (i 0).val) 0#32)) 0#32) = 1#1

/-- The part that fills the scratch, seen alone. -/
abbrev Part3 (F : FTy → Type) : Type :=
  Σ' (arg0 : BitVec 32) (v4 : BitVec 32) (v6 : Elt F .i32) (v8 : Elt F .i32) (v32 : FVec F S4x128x512 .bf16) (v35 : BitVec 32) (v36 : BitVec 32), BitVec 1

/-- What the part hands on, the slab of rows `v` read. -/
def out3' (i : grid0.Coords) (x0 x1 : Vec F S128 .i32) (v : Vec F S1x4x128x512 .bf16) : Part3 F :=
  ⟨BitVec.ofNat 32 (i 0).val, Scalar.addi (Scalar.muli (BitVec.ofNat 32 (i 0).val) 8#32) 0#32, word x0 (k0_off1 i 0), word x1 (k0_off1 i 0),
    k0_pay19 v, Scalar.select (Scalar.cmpi .eq 512#32 0#32) 1#32 512#32,
    Scalar.remsi (Scalar.subi 512#32 (word x1 (k0_off1 i 0))) (Scalar.select (Scalar.cmpi .eq 512#32 0#32) 1#32 512#32),
    Scalar.cmpi .ne (Scalar.remsi (Scalar.subi 512#32 (word x1 (k0_off1 i 0))) (Scalar.select (Scalar.cmpi .eq 512#32 0#32) 1#32 512#32)) 0#32⟩

/-- What the part hands on, the scratch holding `xs`. -/
def out3 (i : grid0.Coords) (x0 x1 : Vec F S128 .i32) (xs : Vec F S16x4x512x512 .bf16) : Part3 F :=
  out3' i x0 x1 (slab xs (word x0 (k0_off1 i 0)).toNat)

set_option maxHeartbeats 4000000 in
/-- The first part of the step: at the first point it fills the scratch, and at every point it cuts the first crop's slab. -/
theorem part3 (c : Dev nD) (i : grid0.Coords)
    (x0 : Vec F S128 .i32) (x1 : Vec F S128 .i32) (x4 : Vec F S2x512x512 .f32) (x5 : Vec F S2x512x512 .f32)
    (hx0 : ∀ n, (word x0 n).toNat ≤ 384) (d : Vec F S16x4x512x512 .bf16) (hd : ¬ First i → d = shifted x4 x5)
    (E : Set ℕ) (K : Part3 F → sProp 𝕄) :
    iprop(owns (c : Thread nD τ) arg1 fullShare x0 ∗ owns (c : Thread nD τ) arg2 fullShare x1 ∗ owns (c : Thread nD τ) arg5 fullShare x4 ∗ owns (c : Thread nD τ) arg6 fullShare x5 ∗ owns (c : Thread nD τ) arg15 fullShare d
      ∗ (iprop(owns (c : Thread nD τ) arg1 fullShare x0 ∗ owns (c : Thread nD τ) arg2 fullShare x1 ∗ owns (c : Thread nD τ) arg5 fullShare x4 ∗ owns (c : Thread nD τ) arg6 fullShare x5 ∗ owns (c : Thread nD τ) arg15 fullShare (shifted x4 x5)) -∗
        K (out3 i x0 x1 (shifted x4 x5))))
    ⊢ wp frame (wpE (defs₀ (F := F)) Variants.none c none) E (k0_part3 i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  unfold out3 out3'; rw [k0_part3_eq_skeleton]; unfold k0_part3_skel
  simp only [k0_part1_eq_skeleton, k0_part2_eq_skeleton]
  unfold owns
  iintro ⟨⟨%f0, %hf0, H0⟩, ⟨%f1, %hf1, H1⟩, ⟨%f4, %hf4, H4⟩, ⟨%f5, %hf5, H5⟩, ⟨%fs, %hfs, HS⟩, Hk⟩
  obtain rfl := harg1.eq_unread hf0; obtain rfl := harg2.eq_unread hf1; obtain rfl := harg5.eq_unread hf4; obtain rfl := harg6.eq_unread hf5; obtain rfl := harg15.eq_unread hfs
  have hc (n : ℕ) := chk_small (word x0 n) (hx0 n)
  have hr0 := readAt_word harg1 x0
  have hr1 := readAt_word harg2 x1
  have hr4 := readAt_all harg5 x4 ![0, 0, 0] (by decide)
  have hr5 := readAt_all harg6 x5 ![0, 0, 0] (by decide)
  by_cases hc0 : First i
  · sl_exec (disch := first | sl_exact hc0 | (guard_target =~ k0_chk1 (word _ _); exact (hc _).1))
    sl_step
    have hp (f) : arg15.view.read (Elt F) (arg15.view.writes (Elt F) f (part3.sl.HS_16 x4 x5)) = shifted x4 x5 := by
      funext y
      refine View.read_writes_apply_of_pieces _ _ _ (part3.sl.HS_16 x4 x5) ?_ y
        (View.cover_of_tiledL (part3.sl.HS_16 x4 x5) S1x4x512x512.size (by sl_kernel_rfl) y)
      repeat' refine List.forall_mem_cons.2 ⟨?_, ?_⟩
      all_goals first
        | exact fun x => shifted_piece x4 x5 _ _ (by decide) (by decide) x
        | exact fun _ h => absurd h List.not_mem_nil
    have hv : part3.sl.v31 arg15 c i x0 x4 x5 hc = slab (shifted x4 x5) (word x0 (k0_off1 i 0)).toNat :=
      readAt_slab _ _ (hp _) _ _ (hc _).2 _
    rw [hv, show part3.sl.r i x0 = word x0 (k0_off1 i 0) from rfl, show part3.sl.r_1 i x1 = word x1 (k0_off1 i 0) from rfl]
    iapply Hk
    isplitl [H0]
    · iexists _; isplitr; · ipureintro; exact harg1.read_unread _
      iexact H0
    isplitl [H1]
    · iexists _; isplitr; · ipureintro; exact harg2.read_unread _
      iexact H1
    isplitl [H4]
    · iexists _; isplitr; · ipureintro; exact harg5.read_unread _
      iexact H4
    isplitl [H5]
    · iexists _; isplitr; · ipureintro; exact harg6.read_unread _
      iexact H5
    iexists _; isplitr; · ipureintro; exact hp arg15.view.junk
    iexact HS
  · obtain rfl := hd hc0
    clear hd hf0 hf1 hf4 hf5
    have hrs (n : ℕ) := readAt_slab (m := arg15) _ _ (harg15.read_unread (shifted x4 x5)) (word x0 n).toNat (k0_off2 (word x0 n)) (hc n).2
    sl_exec (disch := first | sl_exact hc0 | (guard_target =~ k0_chk1 (word _ _); exact (hc _).1))
    sl_step
    rw [show part3.sl.r_2 i x0 = word x0 (k0_off1 i 0) from rfl, show part3.sl.r_3 i x1 = word x1 (k0_off1 i 0) from rfl]
    iapply Hk
    isplitl [H0]
    · iexists _; isplitr; · ipureintro; exact harg1.read_unread _
      iexact H0
    isplitl [H1]
    · iexists _; isplitr; · ipureintro; exact harg2.read_unread _
      iexact H1
    isplitl [H4]
    · iexists _; isplitr; · ipureintro; exact harg5.read_unread _
      iexact H4
    isplitl [H5]
    · iexists _; isplitr; · ipureintro; exact harg6.read_unread _
      iexact H5
    iexists _; isplitr; · ipureintro; exact harg15.read_unread _
    iexact HS

end Cert.KernelIdeal.Body

end
-- ==== Proof.Ideal.Pieces.lean ====
module

public import proofs.«01_k».proof.Proof.Gen.KernelIdeal.Points
public import proofs.«01_k».proof.Proof.Ideal.Content
public import Idealize.ShloMosaic.Lib.Pointwise

/-! Each stored piece of a step's two output blocks is that piece of the block's closed form. One statement serves all
eight crops: a piece is named by the row or column it starts at. -/

@[expose] public section

set_option maxRecDepth 16384

noncomputable section

namespace Cert.KernelIdeal.Body

open Cert.KernelIdeal Cert.KernelIdeal.Gen
open Idealize.ShloMosaic Idealize.ShloMosaic.TcCoe Idealize.ShloMosaic.Tactic

variable {F : FTy → Type} [FloatOps F]

/-- Where step `i` finds crop `j`'s words in the tables, as the kernel computes it. -/
def place (i : grid0.Coords) : ℕ → ℕ
  | 0 => k0_off1 i 0
  | 1 => k0_off3 i 0
  | 2 => k0_off5 i 0
  | 3 => k0_off7 i 0
  | 4 => k0_off9 i 0
  | 5 => k0_off11 i 0
  | 6 => k0_off13 i 0
  | _ => k0_off15 i 0

/-- The words of crop `j` lie at `8 i + j`. -/
theorem place_eq (i : grid0.Coords) (j : ℕ) (hj : j < 8) : place i j = 8 * (i 0).val + j := by
  unfold place
  interval_cases j
  · rw [k0_off1_eq]; rfl
  · rw [k0_off3_eq]; rfl
  · rw [k0_off5_eq]; rfl
  · rw [k0_off7_eq]; rfl
  · rw [k0_off9_eq]; rfl
  · rw [k0_off11_eq]; rfl
  · rw [k0_off13_eq]; rfl
  · rw [k0_off15_eq]; rfl

/-- The crop's number as the kernel computes it. -/
theorem number_eq (i : grid0.Coords) (j : ℕ) (hj : j < 8) :
    Scalar.addi (Scalar.muli (BitVec.ofNat 32 (i 0).val) 8#32) (BitVec.ofNat 32 j) = BitVec.ofNat 32 (8 * (i 0).val + j) := by
  have h : ∀ n : Fin 16, ∀ k : Fin 8,
      Scalar.addi (Scalar.muli (BitVec.ofNat 32 n.val) 8#32) (BitVec.ofNat 32 k.val) = BitVec.ofNat 32 (8 * n.val + k.val) := by
    decide +kernel
  exact h (i 0) ⟨j, hj⟩

/-- The rows of the block of probabilities that start at `r` are the probabilities of crop `r / 128` of the step. -/
theorem prob_piece (i : grid0.Coords) (x0 x1 : Vec F S128 .i32) (x6 : Vec F S64x4 .bf16) (x7 : Vec F S8x1x64 .bf16)
    (x8 : Vec F S64x64 .bf16) (x9 : Vec F S64x1 .bf16) (x10 : Vec F S1x64 .bf16) (x11 : Vec F S1x1 .f32)
    (xs : Vec F S16x4x512x512 .bf16) (r : ℕ) (hr : r % 128 = 0) (inb) (x : S128x128.Idx) :
    prob (word x1 (place i (r / 128))) (slab xs (word x0 (place i (r / 128))).toNat) x6 (b1Row x7 (r / 128)) x8 x9 x10 x11 x
      = probBlk (i 0).val x0 x1 x6 x7 x8 x9 x10 x11 xs
          ((Rect.unit (s := S1024x128) ![r, 0] S128x128.size inb).emb x) := by
  have h0 : r + 128 ≤ 1024 := inb 0
  have h1 : (x 0).val < 128 := (x 0).isLt
  have e0 : ((Rect.unit (s := S1024x128) ![r, 0] S128x128.size inb).emb x 0).val = r + (x 0).val := by
    show r + 1 * (x 0).val = _
    omega
  have e : (r + (x 0).val) / 128 = r / 128 := by omega
  unfold probBlk
  rw [e0, e, place_eq i _ (by omega)]
  congr 1
  funext a
  apply Fin.ext
  fin_cases a
  · show (x 0).val = (r + (x 0).val) % 128
    omega
  · show (x 1).val = 0 + 1 * (x 1).val
    omega

section Regroup

variable (l : BitVec 32) (sl : Vec F S1x4x128x512 .bf16) (w1 : Vec F S64x4 .bf16) (b1 : Vec F S1x1x64 .bf16)
  (w2 : Vec F S64x64 .bf16) (b2 : Vec F S64x1 .bf16) (w3 : Vec F S1x64 .bf16) (b3 : Vec F S1x1 .f32)

/-- The rotation's span. -/
abbrev span : BitVec 32 := Scalar.select (Scalar.cmpi .eq 512#32 0#32) 1#32 512#32

/-- The remainder the rotation amount is made from. -/
abbrev rest : BitVec 32 := Scalar.remsi (Scalar.subi 512#32 l) span

/-! The step's operations fall into expressions differently for each crop: the eight groupings are the one function. -/

/-- The grouping of crop 0. -/
theorem group0 : k0_pay21 (k0_pay20 (k0_pay19 sl) span (rest l) (Scalar.cmpi .ne (rest l) 0#32) w1 b1 w2 b2 w3 b3)
    (Scalar.ofBits .f32 0x00000000#32) = prob l sl w1 b1 w2 b2 w3 b3 := rfl

/-- The grouping of crop 2. -/
theorem group2 : k0_pay32 (k0_pay31 l sl w1 b1 w2 b2) (Scalar.ofBits .f32 0x00000000#32) w3 b3 = prob l sl w1 b1 w2 b2 w3 b3 := rfl

/-- The grouping of crop 3. -/
theorem group3 : k0_pay38 (k0_pay37 (k0_pay36 sl) span (rest l)
    (Scalar.andi (Scalar.xori (Scalar.cmpi .slt (rest l) 0#32) (Scalar.cmpi .slt span 0#32)) (Scalar.cmpi .ne (rest l) 0#32))
    w1 b1 w2 b2 w3 b3) = prob l sl w1 b1 w2 b2 w3 b3 := rfl

/-- The grouping of crop 4. -/
theorem group4 : k0_pay44 (k0_pay42 l sl w1 b1) k0_pay43 w2 b2 w3 b3 = prob l sl w1 b1 w2 b2 w3 b3 := rfl

/-- The grouping of crop 5. -/
theorem group5 : k0_pay51 (k0_pay50 l (k0_pay49 sl) w1 b1 w2 b2) w3 b3 = prob l sl w1 b1 w2 b2 w3 b3 := rfl

/-- The grouping of crop 6. -/
theorem group6 : k0_pay56 (k0_pay55 l sl) w1 b1 w2 b2 w3 b3 = prob l sl w1 b1 w2 b2 w3 b3 := rfl

/-- The grouping of crop 7. -/
theorem group7 : k0_pay62 (k0_pay60 l sl w1 b1) (k0_pay61 w2) b2 w3 b3 = prob l sl w1 b1 w2 b2 w3 b3 := rfl

end Regroup

/-- The same of any expression that is the crop's probabilities. -/
theorem piece_of {P : Vec F S128x128 .f32} {i : grid0.Coords} {x0 x1 : Vec F S128 .i32} {x6 : Vec F S64x4 .bf16} {x7 : Vec F S8x1x64 .bf16}
    {x8 : Vec F S64x64 .bf16} {x9 : Vec F S64x1 .bf16} {x10 : Vec F S1x64 .bf16} {x11 : Vec F S1x1 .f32}
    {xs : Vec F S16x4x512x512 .bf16} (r : ℕ) (hr : r % 128 = 0) (inb)
    (e : P = prob (word x1 (place i (r / 128))) (slab xs (word x0 (place i (r / 128))).toNat) x6 (b1Row x7 (r / 128)) x8 x9 x10 x11)
    (x : S128x128.Idx) :
    P x = probBlk (i 0).val x0 x1 x6 x7 x8 x9 x10 x11 xs ((Rect.unit (s := S1024x128) ![r, 0] S128x128.size inb).emb x) :=
  (congrFun e x).trans (prob_piece i x0 x1 x6 x7 x8 x9 x10 x11 xs r hr inb x)

section Ids

variable (i : grid0.Coords) (x0 x1 : Vec F S128 .i32) (x2 x3 : Vec F S1x16384 .i32)

/-- The crop's number fills its stretch of the first row of indices. -/
theorem id_piece0 (q : ℕ) (hq : q % 16384 = 0) (inb) (x : S1x16384.Idx) :
    shapeCast S1x16384 (broadcast S16384 (Scalar.addi (Scalar.muli (BitVec.ofNat 32 (i 0).val) 8#32) (BitVec.ofNat 32 (q / 16384))))
        shapeCasts_S16384_S1x16384 x
      = idBlk (i 0).val x0 x1 x2 x3 ((Rect.unit (s := S3x131072) ![0, q] S1x16384.size inb).emb x) := by
  have h0 : q + 16384 ≤ 131072 := inb 1
  have h1 : (x 1).val < 16384 := (x 1).isLt
  have h2 : (x 0).val < 1 := (x 0).isLt
  have e0 : ((Rect.unit (s := S3x131072) ![0, q] S1x16384.size inb).emb x 0).val = 0 := by
    show 0 + 1 * (x 0).val = _
    omega
  have e1 : ((Rect.unit (s := S3x131072) ![0, q] S1x16384.size inb).emb x 1).val = q + (x 1).val := by
    show q + 1 * (x 1).val = _
    omega
  unfold idBlk
  rw [if_pos e0, e1, number_eq i _ (by omega), show (q + (x 1).val) / 16384 = q / 16384 by omega]
  idx_vars x
  pointwise

/-- A row of pixel positions, shifted by the word of the crop. -/
theorem id_shift (X : Vec F S1x16384 .i32) (w : BitVec 32) (x : S1x16384.Idx) :
    shapeCast S1x16384 (addi (shapeCast S16384 X shapeCasts_S1x16384_S16384) (broadcast S16384 w)) shapeCasts_S16384_S1x16384 x
      = Scalar.addi (X (ix2 0 (Fin.ofNat 16384 (x 1).val))) w := by
  idx_vars x
  pointwise
  rw [show Fin.ofNat 16384 x1.val = x1 from Fin.ext (Nat.mod_eq_of_lt x1.isLt)]
  rfl

/-- The crop's stretch of the second row holds its pixels' rows. -/
theorem id_piece1 (q : ℕ) (hq : q % 16384 = 0) (inb) (x : S1x16384.Idx) :
    shapeCast S1x16384 (addi (shapeCast S16384 x2 shapeCasts_S1x16384_S16384) (broadcast S16384 (word x0 (place i (q / 16384)))))
        shapeCasts_S16384_S1x16384 x
      = idBlk (i 0).val x0 x1 x2 x3 ((Rect.unit (s := S3x131072) ![1, q] S1x16384.size inb).emb x) := by
  have h0 : q + 16384 ≤ 131072 := inb 1
  have h1 : (x 1).val < 16384 := (x 1).isLt
  have h2 : (x 0).val < 1 := (x 0).isLt
  have e0 : ((Rect.unit (s := S3x131072) ![1, q] S1x16384.size inb).emb x 0).val = 1 := by
    show 1 + 1 * (x 0).val = _
    omega
  have e1 : ((Rect.unit (s := S3x131072) ![1, q] S1x16384.size inb).emb x 1).val = q + (x 1).val := by
    show q + 1 * (x 1).val = _
    omega
  rw [id_shift, place_eq i _ (by omega)]
  unfold idBlk
  rw [if_neg (by omega), if_pos e0, e1, show (q + (x 1).val) / 16384 = q / 16384 by omega]
  congr 3
  apply Fin.ext
  show (x 1).val % 16384 = (q + (x 1).val) % 16384
  omega

/-- The crop's stretch of the third row holds its pixels' columns. -/
theorem id_piece2 (q : ℕ) (hq : q % 16384 = 0) (inb) (x : S1x16384.Idx) :
    shapeCast S1x16384 (addi (shapeCast S16384 x3 shapeCasts_S1x16384_S16384) (broadcast S16384 (word x1 (place i (q / 16384)))))
        shapeCasts_S16384_S1x16384 x
      = idBlk (i 0).val x0 x1 x2 x3 ((Rect.unit (s := S3x131072) ![2, q] S1x16384.size inb).emb x) := by
  have h0 : q + 16384 ≤ 131072 := inb 1
  have h1 : (x 1).val < 16384 := (x 1).isLt
  have h2 : (x 0).val < 1 := (x 0).isLt
  have e0 : ((Rect.unit (s := S3x131072) ![2, q] S1x16384.size inb).emb x 0).val = 2 := by
    show 2 + 1 * (x 0).val = _
    omega
  have e1 : ((Rect.unit (s := S3x131072) ![2, q] S1x16384.size inb).emb x 1).val = q + (x 1).val := by
    show q + 1 * (x 1).val = _
    omega
  rw [id_shift, place_eq i _ (by omega)]
  unfold idBlk
  rw [if_neg (by omega), if_neg (by omega), e1, show (q + (x 1).val) / 16384 = q / 16384 by omega]
  congr 3
  apply Fin.ext
  show (x 1).val % 16384 = (q + (x 1).val) % 16384
  omega

end Ids

end Cert.KernelIdeal.Body

end
-- ==== Proof.Ideal.Body.lean ====
module

public import proofs.«01_k».proof.Proof.Gen.KernelIdeal.Frame
public import proofs.«01_k».proof.Proof.Ideal.Fill
public import proofs.«01_k».proof.Proof.Ideal.Pieces
public import Idealize.ShloMosaic.Lib.Tactic

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (arg1 : Memref sig .tc .smem S128 .i32) (harg1 : arg1.IsWhole)
  (arg2 : Memref sig .tc .smem S128 .i32) (harg2 : arg2.IsWhole)
  (arg3 : Memref sig .tc .vmem S1x16384 .i32) (harg3 : arg3.IsWhole)
  (arg4 : Memref sig .tc .vmem S1x16384 .i32) (harg4 : arg4.IsWhole)
  (arg5 : Memref sig .tc .vmem S2x512x512 .f32) (harg5 : arg5.IsWhole)
  (arg6 : Memref sig .tc .vmem S2x512x512 .f32) (harg6 : arg6.IsWhole)
  (arg7 : Memref sig .tc .vmem S64x4 .bf16) (harg7 : arg7.IsWhole)
  (arg8 : Memref sig .tc .vmem S8x1x64 .bf16) (harg8 : arg8.IsWhole)
  (arg9 : Memref sig .tc .vmem S64x64 .bf16) (harg9 : arg9.IsWhole)
  (arg10 : Memref sig .tc .vmem S64x1 .bf16) (harg10 : arg10.IsWhole)
  (arg11 : Memref sig .tc .vmem S1x64 .bf16) (harg11 : arg11.IsWhole)
  (arg12 : Memref sig .tc .vmem S1x1 .f32) (harg12 : arg12.IsWhole)
  (arg13 : Memref sig .tc .vmem S1024x128 .f32) (harg13 : arg13.IsWhole)
  (arg14 : Memref sig .tc .vmem S3x131072 .i32) (harg14 : arg14.IsWhole)
  (arg15 : Memref sig .tc .vmem S16x4x512x512 .bf16) (harg15 : arg15.IsWhole)

set_option maxHeartbeats 4000000 in
/-- The step at one point: from its blocks and the scratch it writes the point's probabilities and indices, and leaves the
shifted copies in the scratch. -/
theorem run (c : Dev nD) (i : grid0.Coords)
    (x0 : Vec F S128 .i32) (x1 : Vec F S128 .i32) (x2 : Vec F S1x16384 .i32) (x3 : Vec F S1x16384 .i32) (x4 : Vec F S2x512x512 .f32) (x5 : Vec F S2x512x512 .f32) (x6 : Vec F S64x4 .bf16) (x7 : Vec F S8x1x64 .bf16) (x8 : Vec F S64x64 .bf16) (x9 : Vec F S64x1 .bf16) (x10 : Vec F S1x64 .bf16) (x11 : Vec F S1x1 .f32)
    (hx0 : ∀ n, (word x0 n).toNat ≤ 384) (d : Vec F S16x4x512x512 .bf16) (hd : ¬ First i → d = shifted x4 x5)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ (∃ d, owns (c : Thread nD τ) arg14 fullShare d)
      ∗ owns (c : Thread nD τ) arg15 fullShare d
      ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11
        ∗ owns (c : Thread nD τ) arg13 fullShare (probBlk (i 0).val x0 x1 x6 x7 x8 x9 x10 x11 (shifted x4 x5))
        ∗ owns (c : Thread nD τ) arg14 fullShare (idBlk (i 0).val x0 x1 x2 x3)
        ∗ owns (c : Thread nD τ) arg15 fullShare (shifted x4 x5)) -∗ K ⟨⟩))
    ⊢ wp frame (wpE (defs₀ (F := F)) Variants.none c none) E (cc0__mlp_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  rw [cc0__mlp_kernel_eq_skeleton]; unfold cc0__mlp_kernel_skel
  rw [wp_bind]
  simp only [k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton]
  iintro ⟨H0, H1, H2, H3, H4, H5, H6, H7, H8, H9, H10, H11, ⟨%d12, H12⟩, ⟨%d13, H13⟩, HS, Hk⟩
  iapply (part3 arg1 harg1 arg2 harg2 arg3 harg3 arg4 harg4 arg5 harg5 arg6 harg6 arg7 harg7 arg8 harg8 arg9 harg9 arg10 harg10 arg11 harg11 arg12 harg12 arg13 harg13 arg14 harg14 arg15 harg15 c i x0 x1 x4 x5 hx0 d hd)
  isplitl [H0]; · iexact H0
  isplitl [H1]; · iexact H1
  isplitl [H4]; · iexact H4
  isplitl [H5]; · iexact H5
  isplitl [HS]; · iexact HS
  unfold owns out3 out3'
  iintro ⟨⟨%f0, %hf0, H0⟩, ⟨%f1, %hf1, H1⟩, ⟨%f4, %hf4, H4⟩, ⟨%f5, %hf5, H5⟩, ⟨%fs, %hfs, HS⟩⟩
  icases H2 with ⟨%f2, %hf2, H2⟩
  icases H3 with ⟨%f3, %hf3, H3⟩
  icases H6 with ⟨%f6, %hf6, H6⟩
  icases H7 with ⟨%f7, %hf7, H7⟩
  icases H8 with ⟨%f8, %hf8, H8⟩
  icases H9 with ⟨%f9, %hf9, H9⟩
  icases H10 with ⟨%f10, %hf10, H10⟩
  icases H11 with ⟨%f11, %hf11, H11⟩
  icases H12 with ⟨%f12, -, H12⟩
  icases H13 with ⟨%f13, -, H13⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg15.eq_unread hfs
  have hc (n : ℕ) := chk_small (word x0 n) (hx0 n)
  have hr0 := readAt_word harg1 x0
  have hr1 := readAt_word harg2 x1
  have hr2 := readAt_all harg3 x2 ![0, 0] (by decide)
  have hr3 := readAt_all harg4 x3 ![0, 0] (by decide)
  have hr6 := readAt_all harg7 x6 ![0, 0] (by decide)
  have hr7 := readAt_b1Row harg8 x7
  have hr8 := readAt_all harg9 x8 ![0, 0] (by decide)
  have hr9 := readAt_all harg10 x9 ![0, 0] (by decide)
  have hr10 := readAt_all harg11 x10 ![0, 0] (by decide)
  have hr11 := readAt_all harg12 x11 ![0, 0] (by decide)
  have hrs (n : ℕ) := readAt_slab (m := arg15) _ _ (harg15.read_unread (shifted x4 x5)) (word x0 n).toNat (k0_off2 (word x0 n)) (hc n).2
  sl_exec (disch := (guard_target =~ k0_chk1 (word _ _); exact (hc _).1))
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr; · ipureintro; exact harg11.read_unread _
    iexact H10
  isplitl [H11]
  · iexists _; isplitr; · ipureintro; exact harg12.read_unread _
    iexact H11
  have e1 : run.sl.r i x0 x1 x4 x5 x6 x7 x8 x9 x10 x11 = k0_pay20 (k0_pay19 (slab (shifted x4 x5) (word x0 (k0_off1 i 0)).toNat)) span
      (rest (word x1 (k0_off1 i 0))) (Scalar.cmpi .ne (rest (word x1 (k0_off1 i 0))) 0#32) x6 (b1Row x7 0) x8 x9 x10 x11 := by
    unfold run.sl.r; with_reducible rfl
  have e2 : k0_pay21 (run.sl.r i x0 x1 x4 x5 x6 x7 x8 x9 x10 x11) run.sl.cst_32 = prob (word x1 (k0_off1 i 0))
      (slab (shifted x4 x5) (word x0 (k0_off1 i 0)).toNat) x6 (b1Row x7 0) x8 x9 x10 x11 := by
    rw [e1]; exact group0 _ _ _ _ _ _ _ _
  isplitl [H12]
  · iexists _; isplitr; swap; · iexact H12
    ipureintro
    funext y
    refine View.read_writes_apply_of_pieces _ _ _ _ ?_ y (View.cover_of_tiledL (s := S1024x128) _ S128x128.size (by sl_kernel_rfl) y)
    refine List.forall_mem_cons.2 ⟨piece_of (x1 := x1) 896 (by decide) (by decide) (group7 _ _ _ _ _ _ _ _), ?_⟩
    refine List.forall_mem_cons.2 ⟨piece_of (x1 := x1) 768 (by decide) (by decide) (group6 _ _ _ _ _ _ _ _), ?_⟩
    refine List.forall_mem_cons.2 ⟨piece_of (x1 := x1) 640 (by decide) (by decide) (group5 _ _ _ _ _ _ _ _), ?_⟩
    refine List.forall_mem_cons.2 ⟨piece_of (x1 := x1) 512 (by decide) (by decide) (group4 _ _ _ _ _ _ _ _), ?_⟩
    refine List.forall_mem_cons.2 ⟨piece_of (x1 := x1) 384 (by decide) (by decide) (group3 _ _ _ _ _ _ _ _), ?_⟩
    refine List.forall_mem_cons.2 ⟨piece_of (x1 := x1) 256 (by decide) (by decide) (group2 _ _ _ _ _ _ _ _), ?_⟩
    refine List.forall_mem_cons.2 ⟨piece_of (x1 := x1) 128 (by decide) (by decide) rfl, ?_⟩
    refine List.forall_mem_cons.2 ⟨piece_of (x1 := x1) 0 (by decide) (by decide) e2, ?_⟩
    exact fun _ h => absurd h List.not_mem_nil
  isplitl [H13]
  · iexists _; isplitr; swap; · iexact H13
    ipureintro
    funext y
    refine View.read_writes_apply_of_pieces _ _ _ _ ?_ y (View.cover_of_tiledL (s := S3x131072) _ S1x16384.size (by sl_kernel_rfl) y)
    refine List.forall_mem_cons.2 ⟨id_piece2 i x0 x1 x2 x3 114688 (by decide) (by decide), ?_⟩
    refine List.forall_mem_cons.2 ⟨id_piece1 i x0 x1 x2 x3 114688 (by decide) (by decide), ?_⟩
    refine List.forall_mem_cons.2 ⟨id_piece0 i x0 x1 x2 x3 114688 (by decide) (by decide), ?_⟩
    refine List.forall_mem_cons.2 ⟨id_piece2 i x0 x1 x2 x3 98304 (by decide) (by decide), ?_⟩
    refine List.forall_mem_cons.2 ⟨id_piece1 i x0 x1 x2 x3 98304 (by decide) (by decide), ?_⟩
    refine List.forall_mem_cons.2 ⟨id_piece0 i x0 x1 x2 x3 98304 (by decide) (by decide), ?_⟩
    refine List.forall_mem_cons.2 ⟨id_piece2 i x0 x1 x2 x3 81920 (by decide) (by decide), ?_⟩
    refine List.forall_mem_cons.2 ⟨id_piece1 i x0 x1 x2 x3 81920 (by decide) (by decide), ?_⟩
    refine List.forall_mem_cons.2 ⟨id_piece0 i x0 x1 x2 x3 81920 (by decide) (by decide), ?_⟩
    refine List.forall_mem_cons.2 ⟨id_piece2 i x0 x1 x2 x3 65536 (by decide) (by decide), ?_⟩
    refine List.forall_mem_cons.2 ⟨id_piece1 i x0 x1 x2 x3 65536 (by decide) (by decide), ?_⟩
    refine List.forall_mem_cons.2 ⟨id_piece0 i x0 x1 x2 x3 65536 (by decide) (by decide), ?_⟩
    refine List.forall_mem_cons.2 ⟨id_piece2 i x0 x1 x2 x3 49152 (by decide) (by decide), ?_⟩
    refine List.forall_mem_cons.2 ⟨id_piece1 i x0 x1 x2 x3 49152 (by decide) (by decide), ?_⟩
    refine List.forall_mem_cons.2 ⟨id_piece0 i x0 x1 x2 x3 49152 (by decide) (by decide), ?_⟩
    refine List.forall_mem_cons.2 ⟨id_piece2 i x0 x1 x2 x3 32768 (by decide) (by decide), ?_⟩
    refine List.forall_mem_cons.2 ⟨id_piece1 i x0 x1 x2 x3 32768 (by decide) (by decide), ?_⟩
    refine List.forall_mem_cons.2 ⟨id_piece0 i x0 x1 x2 x3 32768 (by decide) (by decide), ?_⟩
    refine List.forall_mem_cons.2 ⟨id_piece2 i x0 x1 x2 x3 16384 (by decide) (by decide), ?_⟩
    refine List.forall_mem_cons.2 ⟨id_piece1 i x0 x1 x2 x3 16384 (by decide) (by decide), ?_⟩
    refine List.forall_mem_cons.2 ⟨id_piece0 i x0 x1 x2 x3 16384 (by decide) (by decide), ?_⟩
    refine List.forall_mem_cons.2 ⟨id_piece2 i x0 x1 x2 x3 0 (by decide) (by decide), ?_⟩
    refine List.forall_mem_cons.2 ⟨id_piece1 i x0 x1 x2 x3 0 (by decide) (by decide), ?_⟩
    refine List.forall_mem_cons.2 ⟨id_piece0 i x0 x1 x2 x3 0 (by decide) (by decide), ?_⟩
    exact fun _ h => absurd h List.not_mem_nil
  iexists _; isplitr; swap; · iexact HS
  ipureintro; exact harg15.read_unread _

end Cert.KernelIdeal.Body

end
-- ==== Proof.Ideal.Launch.lean ====
module

public import proofs.«01_k».proof.Proof.Gen.KernelIdeal.Frame
public import proofs.«01_k».proof.Proof.Ideal.Host
public import proofs.«01_k».proof.Proof.Ideal.Body
public import Idealize.ShloMosaic.Lib.Tactic
public import Idealize.ShloMosaic.Lib.Claim
public import Idealize.ShloMosaic.Lib.Pipeline.ValueKit

/-! The whole run of the kernel's program: what every grid step leaves in each window, the step proved once for all
points, and from it the run of the whole program and the fact that it leaves its arguments as they were. -/

@[expose] public section

set_option maxRecDepth 16384

noncomputable section

namespace Cert.KernelIdeal.Body

open Cert.KernelIdeal Cert.KernelIdeal.Gen
open Idealize.ShloMosaic Idealize.ShloMosaic.TcCoe Idealize.ShloMosaic.Tactic Idealize.ShloMosaic.Rounds
open Idealize.ShloMosaic.Pipeline (Dat Cfg Window BodyObligation cellOf)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The staging buffer of window 0 at point `t`, and that it is a whole buffer. -/
abbrev ms0_0 (t : Fin cfg0.N) : Memref sig .tc .smem S128 .i32 := win0_0.stage (cfg0.slots t 0)
/-- The staging buffer of window 0 is a whole buffer. -/
abbrev hs0_0 (t : Fin cfg0.N) : (ms0_0 t).IsWhole := hstage0_0 ((cfg0.slots t 0).cast nbuf0_0)
/-- The staging buffer of window 1 at point `t`, and that it is a whole buffer. -/
abbrev ms0_1 (t : Fin cfg0.N) : Memref sig .tc .smem S128 .i32 := win0_1.stage (cfg0.slots t 1)
/-- The staging buffer of window 1 is a whole buffer. -/
abbrev hs0_1 (t : Fin cfg0.N) : (ms0_1 t).IsWhole := hstage0_1 ((cfg0.slots t 1).cast nbuf0_1)
/-- The staging buffer of window 2 at point `t`, and that it is a whole buffer. -/
abbrev ms0_2 (t : Fin cfg0.N) : Memref sig .tc .vmem S1x16384 .i32 := win0_2.stage (cfg0.slots t 2)
/-- The staging buffer of window 2 is a whole buffer. -/
abbrev hs0_2 (t : Fin cfg0.N) : (ms0_2 t).IsWhole := hstage0_2 ((cfg0.slots t 2).cast nbuf0_2)
/-- The staging buffer of window 3 at point `t`, and that it is a whole buffer. -/
abbrev ms0_3 (t : Fin cfg0.N) : Memref sig .tc .vmem S1x16384 .i32 := win0_3.stage (cfg0.slots t 3)
/-- The staging buffer of window 3 is a whole buffer. -/
abbrev hs0_3 (t : Fin cfg0.N) : (ms0_3 t).IsWhole := hstage0_3 ((cfg0.slots t 3).cast nbuf0_3)
/-- The staging buffer of window 4 at point `t`, and that it is a whole buffer. -/
abbrev ms0_4 (t : Fin cfg0.N) : Memref sig .tc .vmem S2x512x512 .f32 := win0_4.stage (cfg0.slots t 4)
/-- The staging buffer of window 4 is a whole buffer. -/
abbrev hs0_4 (t : Fin cfg0.N) : (ms0_4 t).IsWhole := hstage0_4 ((cfg0.slots t 4).cast nbuf0_4)
/-- The staging buffer of window 5 at point `t`, and that it is a whole buffer. -/
abbrev ms0_5 (t : Fin cfg0.N) : Memref sig .tc .vmem S2x512x512 .f32 := win0_5.stage (cfg0.slots t 5)
/-- The staging buffer of window 5 is a whole buffer. -/
abbrev hs0_5 (t : Fin cfg0.N) : (ms0_5 t).IsWhole := hstage0_5 ((cfg0.slots t 5).cast nbuf0_5)
/-- The staging buffer of window 6 at point `t`, and that it is a whole buffer. -/
abbrev ms0_6 (t : Fin cfg0.N) : Memref sig .tc .vmem S64x4 .bf16 := win0_6.stage (cfg0.slots t 6)
/-- The staging buffer of window 6 is a whole buffer. -/
abbrev hs0_6 (t : Fin cfg0.N) : (ms0_6 t).IsWhole := hstage0_6 ((cfg0.slots t 6).cast nbuf0_6)
/-- The staging buffer of window 7 at point `t`, and that it is a whole buffer. -/
abbrev ms0_7 (t : Fin cfg0.N) : Memref sig .tc .vmem S8x1x64 .bf16 := win0_7.stage (cfg0.slots t 7)
/-- The staging buffer of window 7 is a whole buffer. -/
abbrev hs0_7 (t : Fin cfg0.N) : (ms0_7 t).IsWhole := hstage0_7 ((cfg0.slots t 7).cast nbuf0_7)
/-- The staging buffer of window 8 at point `t`, and that it is a whole buffer. -/
abbrev ms0_8 (t : Fin cfg0.N) : Memref sig .tc .vmem S64x64 .bf16 := win0_8.stage (cfg0.slots t 8)
/-- The staging buffer of window 8 is a whole buffer. -/
abbrev hs0_8 (t : Fin cfg0.N) : (ms0_8 t).IsWhole := hstage0_8 ((cfg0.slots t 8).cast nbuf0_8)
/-- The staging buffer of window 9 at point `t`, and that it is a whole buffer. -/
abbrev ms0_9 (t : Fin cfg0.N) : Memref sig .tc .vmem S64x1 .bf16 := win0_9.stage (cfg0.slots t 9)
/-- The staging buffer of window 9 is a whole buffer. -/
abbrev hs0_9 (t : Fin cfg0.N) : (ms0_9 t).IsWhole := hstage0_9 ((cfg0.slots t 9).cast nbuf0_9)
/-- The staging buffer of window 10 at point `t`, and that it is a whole buffer. -/
abbrev ms0_10 (t : Fin cfg0.N) : Memref sig .tc .vmem S1x64 .bf16 := win0_10.stage (cfg0.slots t 10)
/-- The staging buffer of window 10 is a whole buffer. -/
abbrev hs0_10 (t : Fin cfg0.N) : (ms0_10 t).IsWhole := hstage0_10 ((cfg0.slots t 10).cast nbuf0_10)
/-- The staging buffer of window 11 at point `t`, and that it is a whole buffer. -/
abbrev ms0_11 (t : Fin cfg0.N) : Memref sig .tc .vmem S1x1 .f32 := win0_11.stage (cfg0.slots t 11)
/-- The staging buffer of window 11 is a whole buffer. -/
abbrev hs0_11 (t : Fin cfg0.N) : (ms0_11 t).IsWhole := hstage0_11 ((cfg0.slots t 11).cast nbuf0_11)
/-- The staging buffer of window 12 at point `t`, and that it is a whole buffer. -/
abbrev ms0_12 (t : Fin cfg0.N) : Memref sig .tc .vmem S1024x128 .f32 := win0_12.stage (cfg0.slots t 12)
/-- The staging buffer of window 12 is a whole buffer. -/
abbrev hs0_12 (t : Fin cfg0.N) : (ms0_12 t).IsWhole := hstage0_12 ((cfg0.slots t 12).cast nbuf0_12)
/-- The staging buffer of window 13 at point `t`, and that it is a whole buffer. -/
abbrev ms0_13 (t : Fin cfg0.N) : Memref sig .tc .vmem S3x131072 .i32 := win0_13.stage (cfg0.slots t 13)
/-- The staging buffer of window 13 is a whole buffer. -/
abbrev hs0_13 (t : Fin cfg0.N) : (ms0_13 t).IsWhole := hstage0_13 ((cfg0.slots t 13).cast nbuf0_13)

/-- The scratch that is carried from step to step. -/
abbrev scM0_0 : Memref sig .tc .vmem S16x4x512x512 .bf16 := Memref.whole cc0_scratch0

/-- What the launch hands over before the first point: the scratch holding anything, and the generator's register. -/
theorem PhiA0_eq (c : Dev nD) : (Pipeline.ΦA spec0 c : sProp 𝕄)
    = iprop(iprop((∃ d, owns (c : Thread nD τ) scM0_0 fullShare d)) ∗ (∃ r, prngReg c r)) := by
  unfold Pipeline.ΦA; rw [scopedRest0_eq]; simp only [scM0_0, owns_whole]; try rfl

/-- The point's number is its grid coordinate. -/
theorem coord0 (t : Fin cfg0.N) : (grid0.coords t 0).val = t.val := by
  have e0 : (grid0.coords t 0).val = t.val / 1 % 16 := Pipeline.Grid.coords_val t 0 (by decide) rfl
  have hN : cfg0.N = 16 := N_0
  have := t.isLt
  omega

/-- The step that fills the scratch is point 0 and no other. -/
theorem first_iff (t : Fin cfg0.N) : First (grid0.coords t) ↔ t.val = 0 := by
  unfold First
  have e0 := coord0 t
  have hN : cfg0.N = 16 := N_0
  have := t.isLt
  simp only [e0]; word_cmp

/-- Windows 0, 4 and 5 take the same block at every point. -/
theorem index0 : ∀ t : Fin cfg0.N, win0_0.index t = ![0] := by decide +kernel
/-- The block that window 4 takes at each point. -/
theorem index4 : ∀ t : Fin cfg0.N, win0_4.index t = ![0, 0, 0] := by decide +kernel
/-- The block that window 5 takes at each point. -/
theorem index5 : ∀ t : Fin cfg0.N, win0_5.index t = ![0, 0, 0] := by decide +kernel

/-- Window 4's block is the whole first image at every point. -/
theorem iblk4 (c : Dev nD) (t : Fin cfg0.N) : iblk m c 4 t = V m c main_arg0 := by
  funext j; blk_ext [iblk, index4 t]

/-- Window 5's block is the whole second image at every point. -/
theorem iblk5 (c : Dev nD) (t : Fin cfg0.N) : iblk m c 5 t = V m c main_arg1 := by
  funext j; blk_ext [iblk, index5 t]

/-- Window 0's block is the whole table of top rows at every point. -/
theorem iblk0 (c : Dev nD) (t : Fin cfg0.N) : iblk m c 0 t = V m c main_v4 := by
  funext j; blk_ext [iblk, index0 t]

/-- Every entry of the table of top rows is at most 384. -/
theorem tops_le (c : Dev nD) (t : Fin cfg0.N) (n : ℕ) : (word (F := F) (iblk m c 0 t) n).toNat ≤ 384 := by
  rw [iblk0, V_tops]; exact clipped_le _

/-- The scratch after the first point: sixteen shifted copies of the two images. -/
abbrev store (c : Dev nD) : Vec F S16x4x512x512 .bf16 := shifted (V m c main_arg0) (V m c main_arg1)

/-- What holds of the scratch before point `n`: before point 0, what the launch hands over; afterwards the scratch
holds the shifted copies. -/
def PhiS (c : Dev nD) : (n : ℕ) → n ≤ cfg0.N → sProp 𝕄
  | 0, _ => Pipeline.ΦA spec0 c
  | _ + 1, _ => iprop(iprop(owns (c : Thread nD τ) scM0_0 fullShare (store m c)) ∗ (∃ r, prngReg c r))

/-- Before point 0 the scratch is as the launch hands it over. -/
theorem PhiS_zero (c : Dev nD) (n : ℕ) (h : n ≤ cfg0.N) (hz : n = 0) : PhiS m c n h = Pipeline.ΦA spec0 c := by
  subst hz; rfl

/-- After any point the scratch holds the shifted copies. -/
theorem PhiS_succ (c : Dev nD) (n : ℕ) (hn : n < cfg0.N) :
    PhiS m c (n + 1) hn = iprop(iprop(owns (c : Thread nD τ) scM0_0 fullShare (store m c)) ∗ (∃ r, prngReg c r)) := rfl

/-- Before any point but the first the scratch holds the shifted copies. -/
theorem PhiS_pos (c : Dev nD) (n : ℕ) (h : n ≤ cfg0.N) (hz : n ≠ 0) :
    PhiS m c n h = iprop(iprop(owns (c : Thread nD τ) scM0_0 fullShare (store m c)) ∗ (∃ r, prngReg c r)) := by
  cases n with
  | zero => exact absurd rfl hz
  | succ n => rfl

/-- What point `t` leaves in the first output's buffer: eight crops' probabilities. -/
abbrev prob0 (c : Dev nD) (t : Fin cfg0.N) : Vec F S1024x128 .f32 :=
  probBlk t.val (iblk m c 0 t) (iblk m c 1 t) (iblk m c 6 t) (iblk m c 7 t) (iblk m c 8 t) (iblk m c 9 t) (iblk m c 10 t)
    (iblk m c 11 t) (store m c)

/-- What point `t` leaves in the second output's buffer: eight crops' index rows. -/
abbrev id0 (c : Dev nD) (t : Fin cfg0.N) : Vec F S3x131072 .i32 :=
  idBlk t.val (iblk m c 0 t) (iblk m c 1 t) (iblk m c 2 t) (iblk m c 3 t)

/-- The run's data: what each window's array holds at the start and what each point leaves in its buffer. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => prob0 m c t
    | ⟨13, _⟩ => id0 m c t
  Φ t := PhiS m c t.val (Nat.le_of_lt_succ t.isLt)
  q _ := fullShare
  owed _ := 0

/-- Each window's array holds what the host put there. -/
theorem A_eq (c : Dev nD) (w) : (dats m 0 c).A w = V m c (Pipeline.arrRef spec0 w) := by dsimp only [dats]

/-- What holds of the scratch before point `t`, in the launch's own terms. -/
theorem PhiS_castSucc (c : Dev nD) (t : Fin cfg0.N) : (dats m 0 c).Φ t.castSucc = PhiS m c t.val (Nat.le_of_lt t.isLt) := by
  dsimp only [dats]; exact Pipeline.Dat.Φ_castSucc (PhiS m c) t

/-- Point `t` leaves window 0's block as it was. -/
theorem after0_0 (c : Dev nD) (t) : (dats m 0 c).after 0 t = iblk m c 0 t := by dsimp only [dats]
/-- Point `t` leaves window 1's block as it was. -/
theorem after0_1 (c : Dev nD) (t) : (dats m 0 c).after 1 t = iblk m c 1 t := by dsimp only [dats]
/-- Point `t` leaves window 2's block as it was. -/
theorem after0_2 (c : Dev nD) (t) : (dats m 0 c).after 2 t = iblk m c 2 t := by dsimp only [dats]
/-- Point `t` leaves window 3's block as it was. -/
theorem after0_3 (c : Dev nD) (t) : (dats m 0 c).after 3 t = iblk m c 3 t := by dsimp only [dats]
/-- Point `t` leaves window 4's block as it was. -/
theorem after0_4 (c : Dev nD) (t) : (dats m 0 c).after 4 t = iblk m c 4 t := by dsimp only [dats]
/-- Point `t` leaves window 5's block as it was. -/
theorem after0_5 (c : Dev nD) (t) : (dats m 0 c).after 5 t = iblk m c 5 t := by dsimp only [dats]
/-- Point `t` leaves window 6's block as it was. -/
theorem after0_6 (c : Dev nD) (t) : (dats m 0 c).after 6 t = iblk m c 6 t := by dsimp only [dats]
/-- Point `t` leaves window 7's block as it was. -/
theorem after0_7 (c : Dev nD) (t) : (dats m 0 c).after 7 t = iblk m c 7 t := by dsimp only [dats]
/-- Point `t` leaves window 8's block as it was. -/
theorem after0_8 (c : Dev nD) (t) : (dats m 0 c).after 8 t = iblk m c 8 t := by dsimp only [dats]
/-- Point `t` leaves window 9's block as it was. -/
theorem after0_9 (c : Dev nD) (t) : (dats m 0 c).after 9 t = iblk m c 9 t := by dsimp only [dats]
/-- Point `t` leaves window 10's block as it was. -/
theorem after0_10 (c : Dev nD) (t) : (dats m 0 c).after 10 t = iblk m c 10 t := by dsimp only [dats]
/-- Point `t` leaves window 11's block as it was. -/
theorem after0_11 (c : Dev nD) (t) : (dats m 0 c).after 11 t = iblk m c 11 t := by dsimp only [dats]
/-- Point `t` leaves its probabilities in window 12's block. -/
theorem after0_12 (c : Dev nD) (t) : (dats m 0 c).after 12 t = prob0 m c t := by dsimp only [dats]
/-- Point `t` leaves its indices in window 13's block. -/
theorem after0_13 (c : Dev nD) (t) : (dats m 0 c).after 13 t = id0 m c t := by dsimp only [dats]

/-- Before point `t`, window 0's staging buffer holds its block. -/
theorem before0_0 (c : Dev nD) (t) (d) : (dats m 0 c).before 0 t d = iblk m c 0 t := before0_0_of m (dats m 0 c) (A_eq m c 0) (after0_0 m c) t d
/-- Before point `t`, window 1's staging buffer holds its block. -/
theorem before0_1 (c : Dev nD) (t) (d) : (dats m 0 c).before 1 t d = iblk m c 1 t := before0_1_of m (dats m 0 c) (A_eq m c 1) (after0_1 m c) t d
/-- Before point `t`, window 2's staging buffer holds its block. -/
theorem before0_2 (c : Dev nD) (t) (d) : (dats m 0 c).before 2 t d = iblk m c 2 t := before0_2_of m (dats m 0 c) (A_eq m c 2) (after0_2 m c) t d
/-- Before point `t`, window 3's staging buffer holds its block. -/
theorem before0_3 (c : Dev nD) (t) (d) : (dats m 0 c).before 3 t d = iblk m c 3 t := before0_3_of m (dats m 0 c) (A_eq m c 3) (after0_3 m c) t d
/-- Before point `t`, window 4's staging buffer holds its block. -/
theorem before0_4 (c : Dev nD) (t) (d) : (dats m 0 c).before 4 t d = iblk m c 4 t := before0_4_of m (dats m 0 c) (A_eq m c 4) (after0_4 m c) t d
/-- Before point `t`, window 5's staging buffer holds its block. -/
theorem before0_5 (c : Dev nD) (t) (d) : (dats m 0 c).before 5 t d = iblk m c 5 t := before0_5_of m (dats m 0 c) (A_eq m c 5) (after0_5 m c) t d
/-- Before point `t`, window 6's staging buffer holds its block. -/
theorem before0_6 (c : Dev nD) (t) (d) : (dats m 0 c).before 6 t d = iblk m c 6 t := before0_6_of m (dats m 0 c) (A_eq m c 6) (after0_6 m c) t d
/-- Before point `t`, window 7's staging buffer holds its block. -/
theorem before0_7 (c : Dev nD) (t) (d) : (dats m 0 c).before 7 t d = iblk m c 7 t := before0_7_of m (dats m 0 c) (A_eq m c 7) (after0_7 m c) t d
/-- Before point `t`, window 8's staging buffer holds its block. -/
theorem before0_8 (c : Dev nD) (t) (d) : (dats m 0 c).before 8 t d = iblk m c 8 t := before0_8_of m (dats m 0 c) (A_eq m c 8) (after0_8 m c) t d
/-- Before point `t`, window 9's staging buffer holds its block. -/
theorem before0_9 (c : Dev nD) (t) (d) : (dats m 0 c).before 9 t d = iblk m c 9 t := before0_9_of m (dats m 0 c) (A_eq m c 9) (after0_9 m c) t d
/-- Before point `t`, window 10's staging buffer holds its block. -/
theorem before0_10 (c : Dev nD) (t) (d) : (dats m 0 c).before 10 t d = iblk m c 10 t := before0_10_of m (dats m 0 c) (A_eq m c 10) (after0_10 m c) t d
/-- Before point `t`, window 11's staging buffer holds its block. -/
theorem before0_11 (c : Dev nD) (t) (d) : (dats m 0 c).before 11 t d = iblk m c 11 t := before0_11_of m (dats m 0 c) (A_eq m c 11) (after0_11 m c) t d

/-- What a point finds: the scratch, and each window's buffer. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d)))

/-- What a point leaves. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t))

/-- One step of the kernel at point `t`, given a scratch that holds the shifted copies unless `t` is point 0. -/
theorem step (c : Dev nD) (t : Fin cfg0.N) (d : Vec F S16x4x512x512 .bf16) (hd : t.val ≠ 0 → d = store m c) (K : PUnit → sProp 𝕄) :
    iprop(owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare (iblk m c 6 t) ∗ owns (c : Thread nD τ) (ms0_7 t) fullShare (iblk m c 7 t) ∗ owns (c : Thread nD τ) (ms0_8 t) fullShare (iblk m c 8 t) ∗ owns (c : Thread nD τ) (ms0_9 t) fullShare (iblk m c 9 t) ∗ owns (c : Thread nD τ) (ms0_10 t) fullShare (iblk m c 10 t) ∗ owns (c : Thread nD τ) (ms0_11 t) fullShare (iblk m c 11 t)
      ∗ (∃ d, owns (c : Thread nD τ) (ms0_12 t) fullShare d) ∗ (∃ d, owns (c : Thread nD τ) (ms0_13 t) fullShare d)
      ∗ owns (c : Thread nD τ) scM0_0 fullShare d
      ∗ (iprop(owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare (iblk m c 6 t) ∗ owns (c : Thread nD τ) (ms0_7 t) fullShare (iblk m c 7 t) ∗ owns (c : Thread nD τ) (ms0_8 t) fullShare (iblk m c 8 t) ∗ owns (c : Thread nD τ) (ms0_9 t) fullShare (iblk m c 9 t) ∗ owns (c : Thread nD τ) (ms0_10 t) fullShare (iblk m c 10 t) ∗ owns (c : Thread nD τ) (ms0_11 t) fullShare (iblk m c 11 t)
        ∗ owns (c : Thread nD τ) (ms0_12 t) fullShare (prob0 m c t) ∗ owns (c : Thread nD τ) (ms0_13 t) fullShare (id0 m c t)
        ∗ owns (c : Thread nD τ) scM0_0 fullShare (store m c)) -∗ K ⟨⟩))
    ⊢ wp frame (wpE (defs₀ (F := F)) Variants.none c none) Set.univ (bodyAt0 t) K := by
  have h := run (F := F) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) c (grid0.coords t)
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
    (tops_le m c t) d (fun hf => (hd (fun h0 => hf ((first_iff t).mpr h0))).trans (by rw [iblk4, iblk5])) Set.univ K
  rw [coord0 t] at h
  have e : shifted (F := F) (iblk m c 4 t) (iblk m c 5 t) = store m c := by rw [iblk4, iblk5]
  rw [e] at h
  exact h

/-- Every point takes what it finds to what it leaves. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0_0, before0_1, before0_2, before0_3, before0_4, before0_5, before0_6, before0_7, before0_8, before0_9, before0_10, before0_11]
  rw [show (dats m 0 c).owesAt () t.succ = (dats m 0 c).owesAt () t.castSucc from rfl,
    after0_0, after0_1, after0_2, after0_3, after0_4, after0_5, after0_6, after0_7, after0_8, after0_9, after0_10, after0_11, after0_12, after0_13,
    show (dats m 0 c).Φ t.succ = PhiS m c (t.val + 1) t.isLt from rfl, PhiS_succ, PhiS_castSucc]
  by_cases hz : t.val = 0
  · rw [PhiS_zero m c _ _ hz, PhiA0_eq]
    iintro ⟨⟨⟨%d, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply (step m c t d (fun h => absurd hz h))
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [H13]; · iexists _; iexact H13
    isplitl [HS]; · iexact HS
    iintro ⟨H0, H1, H2, H3, H4, H5, H6, H7, H8, H9, H10, H11, H12, H13, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  · rw [PhiS_pos m c _ _ hz]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply (step m c t (store m c) (fun _ => rfl))
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [H13]; · iexists _; iexact H13
    isplitl [HS]; · iexact HS
    iintro ⟨H0, H1, H2, H3, H4, H5, H6, H7, H8, H9, H10, H11, H12, H13, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13

/-- The launch's table of bodies, at this kernel's row, is the step. -/
theorem defs₀_row (t : Fin cfg0.N) : defs₀ (F := F) .tc cfg0.body (cfg0.bodyArgs t (cfg0.slots t)) = bodyAt0 t := by
  unfold defs₀; rw [Defs.onTc_tc]

/-- The step proved at every point, in the form that the launch asks for. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The launch hands over what holds before point 0. -/
theorem hin (c : Dev nD) : Pipeline.ΦA spec0 c ⊢ (dats m 0 c).Φ 0 := by
  rw [show (dats m 0 c).Φ 0 = PhiS m c 0 (Nat.zero_le _) from rfl, PhiS_zero m c 0 _ rfl]

/-- What holds after a point is enough to hand the scratch back. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS, Hg⟩
  isplitl [HS]; · iexists _; iexact HS
  iexact Hg

/-- After the last point the scratch is handed back. -/
theorem hout (c : Dev nD) : (dats m 0 c).Φ (Fin.last cfg0.N) ⊢ Pipeline.ΦA spec0 c :=
  Phi_out m c _ (by rw [Fin.val_last]; have : cfg0.N = 16 := N_0; omega)

set_option backward.isDefEq.respectTransparency.types false in
set_option maxHeartbeats 800000 in
/-- Every run of the program ends, each array holding what the points left in it, with no semaphore counted up. -/
theorem run_main_quiescent : θ_run defs (onTc (τ := τ) (main (F := F))) (s₀ m ρ) (fun r =>
    (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The same without the semaphores. -/
theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- Every run ends and leaves the program's arguments as they were. -/
theorem unchanged : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))) :=
  frame_of m ρ (dats m) (A_eq m) (run_main m ρ)

/-- Every run ends, leaves the arguments as they were and no semaphore counted up. -/
theorem quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (unchanged m ρ) ((θ_run defs _ _).mono (fun _ h => h.2) (run_main_quiescent m ρ))

end Cert.KernelIdeal.Body

end

end
-- ==== Proof.Ideal.Words.lean ====
module

public import proofs.«01_k».proof.Proof.Ideal.Content

/-! The host's floor division and floor remainder by 128, on the words of a crop's pixel numbers. -/

@[expose] public section

set_option maxRecDepth 16384

noncomputable section

namespace Cert.KernelIdeal.Body

open Cert.KernelIdeal Cert.KernelIdeal.Gen
open Idealize.ShloMosaic Idealize.ShloMosaic.TcCoe Idealize.ShloMosaic.Tactic

/-- Floor division of a pixel's number by 128, as the host computes it on words. -/
theorem word_div : ∀ p : Fin 16384,
    Scalar.select
        (IntOp.andi
          (IntOp.cmpi .ne (if BitVec.ofNat 32 p.val = 0 then (0 : BitVec 32) else if (BitVec.ofNat 32 p.val).msb = true then -1 else 1)
            (if 128#32 = 0 then (0 : BitVec 32) else if (128#32).msb = true then -1 else 1))
          (IntOp.cmpi .ne (IntOp.remsi .host (BitVec.ofNat 32 p.val) 128#32) 0#32))
        (IntOp.subi (IntOp.divsi .host (BitVec.ofNat 32 p.val) 128#32) 1#32)
        (IntOp.divsi .host (BitVec.ofNat 32 p.val) 128#32) = BitVec.ofNat 32 (p.val / 128) := by
  decide +kernel

/-- The floor remainder of a pixel's number by 128, as the host computes it on words. -/
theorem word_mod : ∀ p : Fin 16384,
    Scalar.select
        (IntOp.andi
          (IntOp.cmpi .ne
            (IntOp.cmpi .slt (IntOp.remsi .host (BitVec.ofNat 32 p.val) (Scalar.select (IntOp.cmpi .eq 128#32 0#32) 1#32 128#32)) 0#32)
            (IntOp.cmpi .slt (Scalar.select (IntOp.cmpi .eq 128#32 0#32) 1#32 128#32) 0#32))
          (IntOp.cmpi .ne (IntOp.remsi .host (BitVec.ofNat 32 p.val) (Scalar.select (IntOp.cmpi .eq 128#32 0#32) 1#32 128#32)) 0#32))
        (IntOp.addi (IntOp.remsi .host (BitVec.ofNat 32 p.val) (Scalar.select (IntOp.cmpi .eq 128#32 0#32) 1#32 128#32))
          (Scalar.select (IntOp.cmpi .eq 128#32 0#32) 1#32 128#32))
        (IntOp.remsi .host (BitVec.ofNat 32 p.val) (Scalar.select (IntOp.cmpi .eq 128#32 0#32) 1#32 128#32))
      = BitVec.ofNat 32 (p.val % 128) := by
  decide +kernel

end Cert.KernelIdeal.Body
end
end
-- ==== Proof.Ideal.HostVals.lean ====
module

public import proofs.«01_k».proof.Proof.Ideal.Host
public import proofs.«01_k».proof.Proof.Ideal.Words

/-! What the host hands the kernel, over the extended reals: the tables of corners and of pixel positions, the weights
transposed, and the bias of each crop with its embedding folded in. -/

@[expose] public section

set_option maxRecDepth 16384

noncomputable section

namespace Cert.KernelIdeal.Body

open Cert.KernelIdeal Cert.KernelIdeal.Gen
open Idealize.ShloMosaic Idealize.ShloMosaic.TcCoe Idealize.ShloMosaic.Tactic StableHlo

variable (m : (ℓ : Loc nD τ sig) → Buf (Elt Ideal) ℓ)

/-- The centroids' embeddings, as the program is given them. -/
abbrev argC (c : Dev nD) : S128x2.Idx → EReal := m ((c : Thread nD τ).loc main_arg2)
/-- The first layer's weights, as the program is given them. -/
abbrev argW1 (c : Dev nD) : S4x64.Idx → EReal := m ((c : Thread nD τ).loc main_arg4)
/-- The first layer's bias, as the program is given it. -/
abbrev argB1 (c : Dev nD) : S64.Idx → EReal := m ((c : Thread nD τ).loc main_arg5)

/-- The table of left columns. -/
theorem V_lefts (c : Dev nD) : V m c main_v9 = fun j : S128.Idx => clipped (m ((c : Thread nD τ).loc main_arg3) (ix2 (j 0) 1)) := by
  unfold_abbrev_sides
  simp only [List.flatten_cons, List.flatten_nil, List.append_nil, List.cons_append, List.nil_append]
  after_reads_simp
  funext j
  idx_vars j
  simp only [TRef.ofBuf, TRef.toBuf, cast_eq, id_eq]
  pointwise
  rfl

/-- The first layer's weights, transposed. -/
theorem V_w1t (c : Dev nD) : V m c main_v11 = fun j : S64x4.Idx => m ((c : Thread nD τ).loc main_arg4) (ix2 (j 1) (j 0)) := by
  unfold_abbrev_sides
  simp only [List.flatten_cons, List.flatten_nil, List.append_nil, List.cons_append, List.nil_append]
  after_reads_simp
  funext j
  idx_vars j
  pointwise

/-- The second layer's weights, transposed. -/
theorem V_w2t (c : Dev nD) : V m c main_v13 = fun j : S64x64.Idx => m ((c : Thread nD τ).loc main_arg6) (ix2 (j 1) (j 0)) := by
  unfold_abbrev_sides
  simp only [List.flatten_cons, List.flatten_nil, List.append_nil, List.cons_append, List.nil_append]
  after_reads_simp
  funext j
  idx_vars j
  pointwise

/-- The last layer's weights as a row. -/
theorem V_w3row (c : Dev nD) : V m c main_v15 = fun j : S1x64.Idx => m ((c : Thread nD τ).loc main_arg8) (ix2 (j 1) 0) := by
  unfold_abbrev_sides
  simp only [List.flatten_cons, List.flatten_nil, List.append_nil, List.cons_append, List.nil_append]
  after_reads_simp
  funext j
  idx_vars j
  pointwise

/-- The second layer's bias as a column. -/
theorem V_b2col (c : Dev nD) : V m c main_v24 = fun j : S64x1.Idx => m ((c : Thread nD τ).loc main_arg7) (ix1 (j 0)) := by
  unfold_abbrev_sides
  simp only [List.flatten_cons, List.flatten_nil, List.append_nil, List.cons_append, List.nil_append]
  after_reads_simp
  funext j
  idx_vars j
  pointwise

/-- The last layer's bias. -/
theorem V_b3r (c : Dev nD) : V m c main_v25 = fun _ : S1x1.Idx => m ((c : Thread nD τ).loc main_arg9) (ix1 0) := by
  unfold_abbrev_sides
  simp only [List.flatten_cons, List.flatten_nil, List.append_nil, List.cons_append, List.nil_append]
  after_reads_simp
  funext j
  idx_vars j
  pointwise

/-- Each crop's bias of the first layer, less what its embedding meets in the first two rows of the weights. -/
theorem V_b1c (c : Dev nD) : V m c main_v22 = fun j : S128x1x64.Idx =>
    (argB1 m c (ix1 (j 2)) - ∑ k : Fin 2, argC m c (ix2 (j 0) k) * argW1 m c (ix2 (Fin.castLE (by decide) k) (j 2)) : EReal) := by
  unfold_abbrev_sides
  simp only [List.flatten_cons, List.flatten_nil, List.append_nil, List.cons_append, List.nil_append]
  after_reads_simp
  funext j
  idx_vars j
  pointwise
  rfl

/-- The row of each of a crop's pixels. -/
theorem V_rowb (c : Dev nD) : V m c main_v28 = fun j : S1x16384.Idx => BitVec.ofNat 32 ((j 1).val / 128) := by
  unfold_abbrev_sides
  simp only [List.flatten_cons, List.flatten_nil, List.append_nil, List.cons_append, List.nil_append]
  after_reads_simp
  funext j
  idx_vars j
  simp only [TRef.ofBuf, TRef.toBuf, cast_eq, id_eq]
  pointwise
  exact word_div j1

/-- The column of each of a crop's pixels. -/
theorem V_colb (c : Dev nD) : V m c main_v30 = fun j : S1x16384.Idx => BitVec.ofNat 32 ((j 1).val % 128) := by
  unfold_abbrev_sides
  simp only [List.flatten_cons, List.flatten_nil, List.append_nil, List.cons_append, List.nil_append]
  after_reads_simp
  funext j
  idx_vars j
  simp only [TRef.ofBuf, TRef.toBuf, cast_eq, id_eq]
  pointwise
  exact word_mod j1

end Cert.KernelIdeal.Body
end
end
-- ==== Proof.Crops.lean ====
module

public import proofs.«01_k».proof.Proof.Ideal.Host

/-! The problem's mathematics, pixel by pixel: a crop of the stacked image round each centroid, the centroid's embedding
subtracted, and a perceptron of three layers at every pixel; beside it the indices of every crop's pixels. -/

@[expose] public section

noncomputable section

namespace Cert.Crops

open Idealize.ShloMosaic Idealize.ShloMosaic.TcCoe Idealize.ShloMosaic.Tactic Cert.KernelIdeal

/-- The first row (`a = 0`) or column (`a = 1`) of crop `n`, as a word. -/
def corner (I : S128x2.Idx → BitVec 32) (n : Fin 128) (a : Fin 2) : BitVec 32 := Cert.KernelIdeal.Body.clipped (I (ix2 n a))

/-- No crop begins past row or column 384, whatever the centroid. -/
theorem corner_le (I : S128x2.Idx → BitVec 32) (n : Fin 128) (a : Fin 2) : (corner I n a).toNat ≤ 384 :=
  Cert.KernelIdeal.Body.clipped_le _

/-- The image's two planes on top of the two planes of `sigma`. -/
def stack (X Y : S2x512x512.Idx → EReal) (k : Fin 4) (y x : Fin 512) : EReal :=
  if h : k.val < 2 then X (ix3 ⟨k.val, h⟩ y x) else Y (ix3 ⟨k.val - 2, by omega⟩ y x)

/-- Plane `k` of crop `n` at its pixel in row `r` and column `q`. -/
def pixel (X Y : S2x512x512.Idx → EReal) (I : S128x2.Idx → BitVec 32) (n : Fin 128) (r q : Fin 128) (k : Fin 4) : EReal :=
  stack X Y k (Fin.ofNat 512 ((corner I n 0).toNat + r.val)) (Fin.ofNat 512 ((corner I n 1).toNat + q.val))

/-- The same with the crop's embedding subtracted from the first two planes. -/
def feature (X Y : S2x512x512.Idx → EReal) (C : S128x2.Idx → EReal) (I : S128x2.Idx → BitVec 32) (n : Fin 128) (r q : Fin 128)
    (k : Fin 4) : EReal :=
  if h : k.val < 2 then pixel X Y I n r q k + -C (ix2 n ⟨k.val, h⟩) else pixel X Y I n r q k

/-- The first layer. -/
def layer1 (f : Fin 4 → EReal) (W : S4x64.Idx → EReal) (b : S64.Idx → EReal) (o : Fin 64) : EReal :=
  max (∑ k, f k * W (ix2 k o) + b (ix1 o)) 0

/-- The second layer. -/
def layer2 (h : Fin 64 → EReal) (W : S64x64.Idx → EReal) (b : S64.Idx → EReal) (o : Fin 64) : EReal :=
  max (∑ k, h k * W (ix2 k o) + b (ix1 o)) 0

/-- The last layer and its sigmoid. -/
def layer3 (h : Fin 64 → EReal) (W : S64x1.Idx → EReal) (b : S1.Idx → EReal) : EReal :=
  Ideal.div 1 (1 + Ideal.exp (-(∑ k, h k * W (ix2 k 0) + b (ix1 0))))

/-- The probability of crop `n` at its pixel in row `r` and column `q`. -/
def probAt (X Y : S2x512x512.Idx → EReal) (C : S128x2.Idx → EReal) (I : S128x2.Idx → BitVec 32) (W1 : S4x64.Idx → EReal)
    (b1 : S64.Idx → EReal) (W2 : S64x64.Idx → EReal) (b2 : S64.Idx → EReal) (W3 : S64x1.Idx → EReal) (b3 : S1.Idx → EReal)
    (n r q : Fin 128) : EReal :=
  layer3 (layer2 (layer1 (feature X Y C I n r q) W1 b1) W2 b2) W3 b3

/-- Row `a` of the indices of pixel `p` of all the crops' pixels in turn: the crop's number, then the pixel's row and its
column in the image. -/
def idAt (I : S128x2.Idx → BitVec 32) (a : Fin 3) (p : Fin 2097152) : BitVec 32 :=
  if a.val = 0 then BitVec.ofNat 32 (p.val / 16384)
  else if a.val = 1 then BitVec.ofNat 32 (p.val % 16384 / 128) + corner I ⟨p.val / 16384, by omega⟩ 0
  else BitVec.ofNat 32 (p.val % 128) + corner I ⟨p.val / 16384, by omega⟩ 1

end Cert.Crops
end
end
-- ==== Proof.Ideal.Point.lean ====
module

public import proofs.«01_k».proof.Proof.Crops

/-! One pixel's probability, as the kernel computes it over the extended reals. -/

@[expose] public section

set_option maxRecDepth 16384

noncomputable section

namespace Cert.KernelIdeal.Body

open Cert.KernelIdeal Cert.KernelIdeal.Gen
open Idealize.ShloMosaic Idealize.ShloMosaic.TcCoe Idealize.ShloMosaic.Tactic

open Cert.Crops

/-- The rotation that brings column `l` to the front, worked out on words. -/
theorem rot_amount (l : BitVec 32) (hl : l.toNat ≤ 384) :
    (Scalar.select
      (Scalar.andi
        (Scalar.xori
          (Scalar.cmpi .slt (Scalar.remsi (Scalar.subi 512#32 l) (Scalar.select (Scalar.cmpi .eq 512#32 0#32) 1#32 512#32)) 0#32)
          (Scalar.cmpi .slt (Scalar.select (Scalar.cmpi .eq 512#32 0#32) 1#32 512#32) 0#32))
        (Scalar.cmpi .ne (Scalar.remsi (Scalar.subi 512#32 l) (Scalar.select (Scalar.cmpi .eq 512#32 0#32) 1#32 512#32)) 0#32))
      (Scalar.addi (Scalar.remsi (Scalar.subi 512#32 l) (Scalar.select (Scalar.cmpi .eq 512#32 0#32) 1#32 512#32))
        (Scalar.select (Scalar.cmpi .eq 512#32 0#32) 1#32 512#32))
      (Scalar.remsi (Scalar.subi 512#32 l) (Scalar.select (Scalar.cmpi .eq 512#32 0#32) 1#32 512#32))).toNat
      = (512 - l.toNat) % 512 := by
  have H : ∀ n : Fin 385, (Scalar.select
      (Scalar.andi
        (Scalar.xori
          (Scalar.cmpi .slt (Scalar.remsi (Scalar.subi 512#32 (BitVec.ofNat 32 n.val)) (Scalar.select (Scalar.cmpi .eq 512#32 0#32) 1#32 512#32)) 0#32)
          (Scalar.cmpi .slt (Scalar.select (Scalar.cmpi .eq 512#32 0#32) 1#32 512#32) 0#32))
        (Scalar.cmpi .ne (Scalar.remsi (Scalar.subi 512#32 (BitVec.ofNat 32 n.val)) (Scalar.select (Scalar.cmpi .eq 512#32 0#32) 1#32 512#32)) 0#32))
      (Scalar.addi (Scalar.remsi (Scalar.subi 512#32 (BitVec.ofNat 32 n.val)) (Scalar.select (Scalar.cmpi .eq 512#32 0#32) 1#32 512#32))
        (Scalar.select (Scalar.cmpi .eq 512#32 0#32) 1#32 512#32))
      (Scalar.remsi (Scalar.subi 512#32 (BitVec.ofNat 32 n.val)) (Scalar.select (Scalar.cmpi .eq 512#32 0#32) 1#32 512#32))).toNat
      = (512 - n.val) % 512 := by decide +kernel
  have h := H ⟨l.toNat, by omega⟩
  simp only [BitVec.ofNat_toNat, BitVec.setWidth_eq] at h
  exact h

/-- The kernel's stack of the four planes. -/
theorem stack_apply (X Y : Vec Ideal S2x512x512 .f32) (k : Fin 4) (y x : Fin 512) : k0_pay2 X Y (ix3 k y x) = stack X Y k y x := by
  unfold k0_pay2
  pointwise
  rfl

/-- A slab's entry is the stacked image's, `t` rows further down. -/
theorem slab_apply (X Y : Vec Ideal S2x512x512 .f32) (t : ℕ) (ht : t ≤ 384) (k : Fin 4) (r : Fin 128) (x : Fin 512) :
    slab (shifted X Y) t (ix4 0 k r x) = stack X Y k (Fin.ofNat 512 (t + r.val)) x := by
  unfold slab shifted
  refine (stack_apply X Y _ _ _).trans ?_
  congr 1
  apply Fin.ext
  show ((t / 16 * 16 + r.val) % 512 + t % 16) % 512 = (t + r.val) % 512
  omega

/-- The first layer as the kernel groups it: the weights on the left, and the bias that already holds the embedding's part. -/
def layer1k (f : Fin 4 → EReal) (w1 : S64x4.Idx → EReal) (b1 : S1x1x64.Idx → EReal) (o : Fin 64) : EReal :=
  max (∑ k, w1 (ix2 o k) * f k + b1 (ix3 0 0 o)) 0

/-- One pixel's probability, as the kernel computes it. -/
theorem prob_apply (X Y : Vec Ideal S2x512x512 .f32) (I : S128x2.Idx → BitVec 32) (n : Fin 128)
    (w1 : Vec Ideal S64x4 .bf16) (b1 : Vec Ideal S1x1x64 .bf16)
    (w2 : Vec Ideal S64x64 .bf16) (b2 : Vec Ideal S64x1 .bf16) (w3 : Vec Ideal S1x64 .bf16) (b3 : Vec Ideal S1x1 .f32)
    (r q : Fin 128) :
    prob (corner I n 1) (slab (shifted X Y) (corner I n 0).toNat) w1 b1 w2 b2 w3 b3 (ix2 r q)
      = layer3 (layer2 (layer1k (pixel X Y I n r q) w1 b1) (fun j => w2 (ix2 (j 1) (j 0))) (fun j => b2 (ix2 (j 0) 0)))
          (fun j => w3 (ix2 0 (j 0))) (fun _ => b3 (ix2 0 0)) := by
  have h0 := corner_le I n 0
  have h1 := corner_le I n 1
  unfold prob k0_pay27 k0_pay25 k0_pay26
  pointwise
  simp only [rot_amount _ h1, slab_apply X Y _ h0]
  have hx : ∀ p, (⟨(q.val + 512 - (512 - (corner I n 1).toNat) % 512 % 512) % 512, p⟩ : Fin 512)
      = Fin.ofNat 512 ((corner I n 1).toNat + q.val) := fun p => Fin.ext (by
    show _ = ((corner I n 1).toNat + q.val) % 512
    show (q.val + 512 - (512 - (corner I n 1).toNat) % 512 % 512) % 512 = _
    omega)
  simp only [hx]
  unfold layer3
  rw [zero_sub]
  refine congrArg (fun z : EReal => Ideal.div 1 (1 + Ideal.exp (-(z + b3 (ix2 0 0))))) (Finset.sum_congr rfl fun x _ => ?_)
  refine (mul_comm (G := EReal) _ _).trans (congrArg (fun z : EReal => z * w3 (ix2 0 x)) ?_)
  unfold layer2
  refine congrArg (fun z : EReal => max (z + b2 (ix2 x 0)) 0) (Finset.sum_congr rfl fun y _ => ?_)
  exact mul_comm (G := EReal) _ _

end Cert.KernelIdeal.Body
end
end
-- ==== Proof.Ideal.Blocks.lean ====
module

public import proofs.«01_k».proof.Proof.Ideal.Launch
public import proofs.«01_k».proof.Proof.Ideal.HostVals
public import proofs.«01_k».proof.Proof.Ideal.Point

/-! The two arrays that the kernel's run leaves, over the extended reals: each point's blocks put together. -/

@[expose] public section

set_option maxRecDepth 16384

noncomputable section

namespace Cert.KernelIdeal.Body

open Cert.KernelIdeal Cert.KernelIdeal.Gen Cert.Crops
open Idealize.ShloMosaic Idealize.ShloMosaic.TcCoe Idealize.ShloMosaic.Tactic
open Idealize.ShloMosaic.Pipeline (Dat Cfg Window)

variable (m : (ℓ : Loc nD τ sig) → Buf (Elt Ideal) ℓ)

/-- The block that window 1 takes at each point. -/
theorem index1 : ∀ t : Fin cfg0.N, win0_1.index t = ![0] := by decide +kernel
/-- The block that window 2 takes at each point. -/
theorem index2 : ∀ t : Fin cfg0.N, win0_2.index t = ![0, 0] := by decide +kernel
/-- The block that window 3 takes at each point. -/
theorem index3 : ∀ t : Fin cfg0.N, win0_3.index t = ![0, 0] := by decide +kernel
/-- The block that window 6 takes at each point. -/
theorem index6 : ∀ t : Fin cfg0.N, win0_6.index t = ![0, 0] := by decide +kernel
/-- The block that window 7 takes at each point. -/
theorem index7 : ∀ t : Fin cfg0.N, win0_7.index t = ![t.val, 0, 0] := by decide +kernel
/-- The block that window 8 takes at each point. -/
theorem index8 : ∀ t : Fin cfg0.N, win0_8.index t = ![0, 0] := by decide +kernel
/-- The block that window 9 takes at each point. -/
theorem index9 : ∀ t : Fin cfg0.N, win0_9.index t = ![0, 0] := by decide +kernel
/-- The block that window 10 takes at each point. -/
theorem index10 : ∀ t : Fin cfg0.N, win0_10.index t = ![0, 0] := by decide +kernel
/-- The block that window 11 takes at each point. -/
theorem index11 : ∀ t : Fin cfg0.N, win0_11.index t = ![0, 0] := by decide +kernel
/-- The block that window 12 takes at each point. -/
theorem index12 : ∀ t : Fin cfg0.N, win0_12.index t = ![t.val, 0] := by decide +kernel
/-- The block that window 13 takes at each point. -/
theorem index13 : ∀ t : Fin cfg0.N, win0_13.index t = ![0, t.val] := by decide +kernel

/-- These windows' blocks are their whole arrays at every point. -/
theorem iblk1 (c : Dev nD) (t : Fin cfg0.N) : iblk m c 1 t = V m c main_v9 := by
  funext j; blk_ext [iblk, index1 t]
/-- Window 2's block is its whole array at every point. -/
theorem iblk2 (c : Dev nD) (t : Fin cfg0.N) : iblk m c 2 t = V m c main_v28 := by
  funext j; blk_ext [iblk, index2 t]
/-- Window 3's block is its whole array at every point. -/
theorem iblk3 (c : Dev nD) (t : Fin cfg0.N) : iblk m c 3 t = V m c main_v30 := by
  funext j; blk_ext [iblk, index3 t]
/-- Window 6's block is its whole array at every point. -/
theorem iblk6 (c : Dev nD) (t : Fin cfg0.N) : iblk m c 6 t = V m c main_v11 := by
  funext j; blk_ext [iblk, index6 t]
/-- Window 8's block is its whole array at every point. -/
theorem iblk8 (c : Dev nD) (t : Fin cfg0.N) : iblk m c 8 t = V m c main_v13 := by
  funext j; blk_ext [iblk, index8 t]
/-- Window 9's block is its whole array at every point. -/
theorem iblk9 (c : Dev nD) (t : Fin cfg0.N) : iblk m c 9 t = V m c main_v24 := by
  funext j; blk_ext [iblk, index9 t]
/-- Window 10's block is its whole array at every point. -/
theorem iblk10 (c : Dev nD) (t : Fin cfg0.N) : iblk m c 10 t = V m c main_v15 := by
  funext j; blk_ext [iblk, index10 t]
/-- Window 11's block is its whole array at every point. -/
theorem iblk11 (c : Dev nD) (t : Fin cfg0.N) : iblk m c 11 t = V m c main_v25 := by
  funext j; blk_ext [iblk, index11 t]

/-- Row `j` of point `t`'s block of bias rows is crop `8 t + j`'s. -/
theorem b1Row_iblk (c : Dev nD) (t : Fin cfg0.N) (j : ℕ) (hj : j < 8) (z : S1x1x64.Idx) :
    b1Row (iblk m c 7 t) j z = V m c main_v22 (ix3 (Fin.ofNat 128 (8 * t.val + j)) 0 (z 2)) := by
  have ht : t.val < 16 := t.isLt
  have h8 : j % 8 = j := Nat.mod_eq_of_lt hj
  have h128 : (8 * t.val + j) % 128 = 8 * t.val + j := Nat.mod_eq_of_lt (by omega)
  unfold b1Row
  blk_simp [iblk]
  congr 1
  funext a
  apply Fin.ext
  fin_cases a
  · blk_simp [index7 t]
    show t.val * 8 + j % 8 = (8 * t.val + j) % 128
    omega
  · blk_simp [index7 t]
  · blk_simp [index7 t]
    rfl

/-- The images, as the program is given them. -/
abbrev argX (c : Dev nD) : S2x512x512.Idx → EReal := m ((c : Thread nD τ).loc main_arg0)
/-- The two planes of `sigma`, as the program is given them. -/
abbrev argY (c : Dev nD) : S2x512x512.Idx → EReal := m ((c : Thread nD τ).loc main_arg1)
/-- The centroids' places, as the program is given them. -/
abbrev argI (c : Dev nD) : S128x2.Idx → BitVec 32 := m ((c : Thread nD τ).loc main_arg3)
/-- The later layers' weights and biases, as the program is given them. -/
abbrev argW2 (c : Dev nD) : S64x64.Idx → EReal := m ((c : Thread nD τ).loc main_arg6)
/-- The second layer's bias, as the program is given it. -/
abbrev argB2 (c : Dev nD) : S64.Idx → EReal := m ((c : Thread nD τ).loc main_arg7)
/-- The last layer's weights, as the program is given them. -/
abbrev argW3 (c : Dev nD) : S64x1.Idx → EReal := m ((c : Thread nD τ).loc main_arg8)
/-- The last layer's bias, as the program is given it. -/
abbrev argB3 (c : Dev nD) : S1.Idx → EReal := m ((c : Thread nD τ).loc main_arg9)

/-- Entry `k` of the table of top rows is crop `k`'s first row. -/
theorem word_tops (c : Dev nD) (t : Fin cfg0.N) (k : ℕ) : word (F := Ideal) (iblk m c 0 t) k = corner (argI m c) (Fin.ofNat 128 k) 0 := by
  rw [iblk0, V_tops]; rfl

/-- Entry `k` of the table of left columns is crop `k`'s first column. -/
theorem word_lefts (c : Dev nD) (t : Fin cfg0.N) (k : ℕ) : word (F := Ideal) (iblk m c 1 t) k = corner (argI m c) (Fin.ofNat 128 k) 1 := by
  rw [iblk1, V_lefts]; rfl

/-- The first layer's bias of crop `n` as the kernel holds it, less what the crop's embedding meets in the weights. -/
def bias1 (C : S128x2.Idx → EReal) (W : S4x64.Idx → EReal) (b : S64.Idx → EReal) (n : Fin 128) (o : Fin 64) : EReal :=
  b (ix1 o) - ∑ k : Fin 2, C (ix2 n k) * W (ix2 (Fin.castLE (by decide) k) o)

/-- The probability of crop `n` at its pixel in row `r` and column `q`, as the kernel groups its sums. -/
def kernelAt (c : Dev nD) (n r q : Fin 128) : EReal :=
  layer3 (layer2 (layer1k (pixel (argX m c) (argY m c) (argI m c) n r q) (fun j => argW1 m c (ix2 (j 1) (j 0)))
    (fun z => bias1 (argC m c) (argW1 m c) (argB1 m c) n (z 2))) (argW2 m c) (argB2 m c)) (argW3 m c) (argB3 m c)

/-- An entry of what point `t` writes to the probabilities. -/
theorem prob0_apply (c : Dev nD) (t : Fin cfg0.N) (y : S1024x128.Idx) :
    prob0 m c t y = kernelAt m c (Fin.ofNat 128 (8 * t.val + (y 0).val / 128)) (Fin.ofNat 128 (y 0).val) (y 1) := by
  have hy : (y 0).val < 1024 := (y 0).isLt
  unfold prob0 probBlk
  rw [word_tops, word_lefts]
  refine (prob_apply (V m c main_arg0) (V m c main_arg1) (argI m c) _ _ _ _ _ _ _ _ _).trans ?_
  rw [iblk6, iblk8, iblk9, iblk10, iblk11, V_w1t, V_w2t, V_b2col, V_w3row, V_b3r]
  rw [show b1Row (F := Ideal) (iblk m c 7 t) ((y 0).val / 128)
      = fun z => bias1 (argC m c) (argW1 m c) (argB1 m c) (Fin.ofNat 128 (8 * t.val + (y 0).val / 128)) (z 2) from
    funext fun z => (b1Row_iblk m c t _ (by omega) z).trans (by rw [V_b1c]; rfl)]
  unfold kernelAt
  refine congr (congr (congrArg layer3 (congr (congr (congrArg layer2 rfl) ?_) ?_)) ?_) ?_
  · exact funext fun j => congrArg (argW2 m c) (eq_ix2 j).symm
  · exact funext fun j => congrArg (argB2 m c) (eq_ix1 j).symm
  · exact funext fun j => congrArg (argW3 m c) (by idx_vars j; rw [Subsingleton.elim j1 0])
  · exact funext fun j => congrArg (argB3 m c) (by idx_vars j; rw [Subsingleton.elim j0 0])

/-- The array of probabilities after the run. -/
theorem arr12 (c : Dev nD) : (dats m 0 c).arrAt 12 cfg0.N = fun j : S16384x128.Idx =>
    kernelAt m c (Fin.ofNat 128 ((j 0).val / 128)) (Fin.ofNat 128 (j 0).val) (j 1) := by
  refine (dats m 0 c).arrAt_eq_of_covers 12 _ (by decide +kernel) fun t hf y => ?_
  blk_simp
  rw [after0_12]
  refine (prob0_apply m c t y).trans ?_
  have hy : (y 0).val < 1024 := (y 0).isLt
  have e0 : win0_12.index t 0 = t.val := by rw [index12 t]; rfl
  have e1 : ((win0_12.blk t).view.emb y 1).val = (y 1).val := by blk_simp [index12 t]
  congr 1
  · apply Fin.ext
    show (8 * t.val + (y 0).val / 128) % 128 = ((win0_12.index t 0 * 1024 + (y 0).val) / 128) % 128
    omega
  · apply Fin.ext
    show (y 0).val % 128 = (win0_12.index t 0 * 1024 + (y 0).val) % 128
    omega
  · exact Fin.ext e1.symm

/-- An entry of what point `t` writes to the indices. -/
theorem id0_apply (c : Dev nD) (t : Fin cfg0.N) (y : S3x131072.Idx) (p : Fin 2097152) (hp : p.val = t.val * 131072 + (y 1).val) :
    id0 m c t y = idAt (argI m c) (y 0) p := by
  have hy : (y 1).val < 131072 := (y 1).isLt
  have ht : t.val < 16 := t.isLt
  have hn : 8 * t.val + (y 1).val / 16384 = p.val / 16384 := by omega
  have hq : (Fin.ofNat 128 (p.val / 16384) : Fin 128) = ⟨p.val / 16384, by omega⟩ :=
    Fin.ext (Nat.mod_eq_of_lt (by omega))
  unfold id0 idBlk idAt
  rw [word_tops, word_lefts, iblk2, iblk3, V_rowb, V_colb, hn, hq]
  have e1 : (y 1).val % 16384 = p.val % 16384 := by omega
  have e2 : p.val % 16384 % 128 = p.val % 128 := by omega
  show (if (y 0).val = 0 then _ else if (y 0).val = 1 then
    BitVec.ofNat 32 ((y 1).val % 16384 / 128) + _ else BitVec.ofNat 32 ((y 1).val % 16384 % 128) + _) = _
  rw [e1, e2]

/-- The array of indices after the run. -/
theorem arr13 (c : Dev nD) : (dats m 0 c).arrAt 13 cfg0.N = fun j : S3x2097152.Idx => idAt (argI m c) (j 0) (j 1) := by
  refine (dats m 0 c).arrAt_eq_of_covers 13 _ (by decide +kernel) fun t hf y => ?_
  blk_simp
  rw [after0_13]
  have ht : t.val < 16 := t.isLt
  have hy : (y 1).val < 131072 := (y 1).isLt
  have e0 : ((win0_13.blk t).view.emb y 0).val = (y 0).val := by blk_simp [index13 t]
  have e1 : ((win0_13.blk t).view.emb y 1).val = t.val * 131072 + (y 1).val := by blk_simp [index13 t]
  refine (id0_apply m c t y ((win0_13.blk t).view.emb y 1) e1).trans ?_
  exact congrArg (fun a => idAt (argI m c) a ((win0_13.blk t).view.emb y 1)) (Fin.ext e0.symm)

end Cert.KernelIdeal.Body
end
end
-- ==== Proof.Ideal.Result.lean ====
module

public import proofs.«01_k».proof.Proof.Ideal.Blocks

/-! The kernel's program run over the extended reals, and its two results. -/

@[expose] public section

set_option maxRecDepth 16384

noncomputable section

namespace Cert.KernelIdeal.Body

open Cert.KernelIdeal Cert.KernelIdeal.Gen Cert.Crops
open Idealize.ShloMosaic Idealize.ShloMosaic.TcCoe Idealize.ShloMosaic.Tactic Idealize.SL.Sem

variable (m : (ℓ : Loc nD τ sig) → Buf (Elt Ideal) ℓ) (ρ : Dev nD → PrngReg)

/-- The operation after the region hands back the array of probabilities, cut into the crops. -/
theorem W_prob (c : Dev nD) : Pipeline.afterTail₀ cfgs (dats m) 0 (V0 m) [hostOps1] c main_v32
    = (fun j : S128x1x128x128.Idx => kernelAt m c (j 0) (j 2) (j 3)) := by
  unfold Pipeline.afterTail₀
  simp only [List.flatten_cons, List.flatten_nil, List.append_nil]
  rw [StableHlo.after_cons, StableHlo.after_nil, StableHlo.reshape_result]
  rw [show Pipeline.withArrays (cfgs 0).spec c (V0 m c) (fun w => (dats m 0 c).arrAt w (cfgs 0).N) (Proc.devRef .tc main_v31_0)
    = fun j : S16384x128.Idx => kernelAt m c (Fin.ofNat 128 ((j 0).val / 128)) (Fin.ofNat 128 (j 0).val) (j 1) from
    (Pipeline.withArrays_arr _ launch0.win.arr_inj c (V0 m c) _ 12).trans (arr12 m c)]
  funext j
  idx_vars j
  pointwise
  congr 1
  · exact Fin.ext (by show (j0.val * 128 + j2.val) / 128 % 128 = j0.val; omega)
  · exact Fin.ext (by show (j0.val * 128 + j2.val) % 128 = j2.val; omega)

/-- Every run ends with the kernel's probabilities and indices in the two results and the arguments as they were. -/
theorem results : θ_run defs (onTc (τ := τ) (main (F := Ideal))) ⟨m, fun _ => 0, ρ⟩ (fun r => ∀ c : Dev nD,
      r.2.mem ((c.tc : Thread nD τ).loc main_v32) = (fun j : S128x1x128x128.Idx => kernelAt m c (j 0) (j 2) (j 3))
      ∧ r.2.mem ((c.tc : Thread nD τ).loc main_v31_1) = (fun j : S3x2097152.Idx => idAt (argI m c) (j 0) (j 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) := by
  refine (θ_run defs _ _).mono (fun r h c => ⟨?_, ?_, h.1 c⟩) (θ_run_and (unchanged m ρ) (run_main m ρ))
  · exact (((h.2 c).2 main_v32 (Pipeline.mem_restRefs_of main_v32 (by decide) (by decide))).trans (W_prob m c))
  · exact ((h.2 c).1 13).trans (arr13 m c)

end Cert.KernelIdeal.Body
end
end
-- ==== Proof.Fold.lean ====
module

public import proofs.«01_k».proof.Proof.Ideal.Blocks

/-! The first layer as the kernel groups it, with the embedding folded into the bias, is the first layer of the plain
mathematics, where the embeddings and the weights that they meet are real numbers. -/

@[expose] public section

noncomputable section

namespace Cert.Crops

open Idealize.ShloMosaic Idealize.ShloMosaic.TcCoe Idealize.ShloMosaic.Tactic Cert.KernelIdeal Cert.KernelIdeal.Body

/-- Subtracting a real number before a product with a real number, or its product after. -/
theorem add_neg_mul (x : EReal) (a w : ℝ) : (x + -(a : EReal)) * w = w * x + ((-(a * w) : ℝ) : EReal) := by
  rw [mul_comm]
  induction x with
  | bot =>
    rcases lt_trichotomy w 0 with h | h | h
    · simp [← EReal.coe_neg, EReal.coe_mul_bot_of_neg h]
    · subst h; simp
    · simp [← EReal.coe_neg, EReal.coe_mul_bot_of_pos h]
  | top =>
    rcases lt_trichotomy w 0 with h | h | h
    · simp [← EReal.coe_neg, EReal.coe_mul_top_of_neg h]
    · subst h; simp
    · simp [← EReal.coe_neg, EReal.coe_mul_top_of_pos h]
  | coe x =>
    rw [← EReal.coe_neg, ← EReal.coe_add, ← EReal.coe_mul, ← EReal.coe_mul, ← EReal.coe_add]
    congr 1
    ring

/-- Both groupings of the first layer agree. -/
theorem layer1k_eq (p : Fin 4 → EReal) (f : Fin 4 → EReal) (C : S128x2.Idx → EReal) (W : S4x64.Idx → EReal) (b : S64.Idx → EReal)
    (n : Fin 128) (hf : f = fun k => if h : k.val < 2 then p k + -C (ix2 n ⟨k.val, h⟩) else p k)
    (hC : ∀ n e, ∃ a : ℝ, C (ix2 n e) = a) (hW : ∀ (e : Fin 2) o, ∃ a : ℝ, W (ix2 (Fin.castLE (by decide) e) o) = a) :
    layer1k p (fun j => W (ix2 (j 1) (j 0))) (fun z => bias1 C W b n (z 2)) = layer1 f W b := by
  funext o
  obtain ⟨c0, h0⟩ := hC n 0
  obtain ⟨c1, h1⟩ := hC n 1
  obtain ⟨w0, k0⟩ := hW 0 o
  obtain ⟨w1, k1⟩ := hW 1 o
  replace k0 : W (ix2 0 o) = w0 := k0
  replace k1 : W (ix2 1 o) = w1 := k1
  have e0 : f 0 = p 0 + -(c0 : EReal) := by rw [hf, ← h0]; rfl
  have e1 : f 1 = p 1 + -(c1 : EReal) := by rw [hf, ← h1]; rfl
  have e2 : f 2 = p 2 := by rw [hf]; rfl
  have e3 : f 3 = p 3 := by rw [hf]; rfl
  have hb : bias1 C W b n o = b (ix1 o) + (((-(c0 * w0) : ℝ) : EReal) + ((-(c1 * w1) : ℝ) : EReal)) := by
    unfold bias1
    rw [Fin.sum_univ_two, h0, h1]
    show b (ix1 o) - ((c0 : EReal) * W (ix2 0 o) + (c1 : EReal) * W (ix2 1 o)) = _
    rw [k0, k1, ← EReal.coe_mul, ← EReal.coe_mul, ← EReal.coe_add, sub_eq_add_neg, ← EReal.coe_neg, ← EReal.coe_add]
    congr 2
    ring
  show max (∑ k, W (ix2 k o) * p k + bias1 C W b n o) 0 = max (∑ k, f k * W (ix2 k o) + b (ix1 o)) 0
  rw [hb, Fin.sum_univ_four, Fin.sum_univ_four, e0, e1, e2, e3, k0, k1, add_neg_mul, add_neg_mul, mul_comm (p 2), mul_comm (p 3)]
  congr 1
  ac_rfl

/-- The kernel's probability of a pixel is the plain mathematics'. -/
theorem kernelAt_eq (m : (ℓ : Loc nD τ sig) → Buf (Elt Ideal) ℓ) (c : Dev nD)
    (hC : ∀ n e, ∃ a : ℝ, argC m c (ix2 n e) = a)
    (hW : ∀ (e : Fin 2) o, ∃ a : ℝ, argW1 m c (ix2 (Fin.castLE (by decide) e) o) = a) (n r q : Fin 128) :
    kernelAt m c n r q = probAt (argX m c) (argY m c) (argC m c) (argI m c) (argW1 m c) (argB1 m c) (argW2 m c) (argB2 m c)
      (argW3 m c) (argB3 m c) n r q := by
  unfold kernelAt probAt
  rw [layer1k_eq _ (feature (argX m c) (argY m c) (argC m c) (argI m c) n r q) _ _ _ _ rfl hC hW]

end Cert.Crops
end
end
-- ==== Proof.Finite.lean ====
module

public import proofs.«01_k».proof.Defs
public import proofs.«01_k».proof.Proof.Ideal.Point
public import Idealize.ShloMosaic.Lib.ReduceAll
public import Idealize.ShloMosaic.Lib.Pointwise

/-! What the precondition says of the arguments: the embeddings, and the two rows of weights that they meet, are real
numbers. -/

@[expose] public section

noncomputable section

namespace Cert.Pre_finite

open Idealize.ShloMosaic Idealize.ShloMosaic.Tactic

/-- The shape relations that the precondition's operations take. -/
theorem facts : Facts where
  bcast_S_S128x2 := by decide
  reducesTo_S128x2_S_d0_1 := by decide
  h_S_ := by decide
  slices_S4x64_S2x64_0_0 := by decide
  bcast_S_S2x64 := by decide
  reducesTo_S2x64_S_d0_1 := by decide

/-- A value whose magnitude is below infinity is a real number. -/
theorem real_of_lt (x : EReal) (h : Ideal.cmp .olt (max x (-x)) (Ideal.ofBits .f32 0x7F800000#32) = 1#1) : ∃ a : ℝ, x = a := by
  have htop : Ideal.ofBits .f32 0x7F800000#32 = ⊤ := by simp [Ideal.ofBits, Ideal.ieee]
  rw [htop] at h
  induction x with
  | bot => simp [Ideal.cmp] at h
  | top => simp [Ideal.cmp] at h
  | coe a => exact ⟨a, rfl⟩

/-- Under the precondition every embedding, and every weight in the first two rows of the first layer, is a real number. -/
theorem reals [Facts] (a0 a1 : FVec Ideal S2x512x512 .f32) (C : FVec Ideal S128x2 .f32) (I : IVec S128x2 32) (W : FVec Ideal S4x64 .f32)
    (a5 : FVec Ideal S64 .f32) (a6 : FVec Ideal S64x64 .f32) (a7 : FVec Ideal S64 .f32) (a8 : FVec Ideal S64x1 .f32)
    (a9 : FVec Ideal S1 .f32) (h : fn a0 a1 C I W a5 a6 a7 a8 a9 = fun _ => 1#1) :
    (∀ n e, ∃ a : ℝ, (C (ix2 n e) : EReal) = a) ∧ ∀ (e : Fin 2) o, ∃ a : ℝ, (W (ix2 (Fin.castLE (by decide) e) o) : EReal) = a := by
  have : Subsingleton S_.Idx := ⟨fun a b => funext fun i => i.elim0⟩
  have h0 := congrFun h (fun i => i.elim0)
  dsimp only [fn] at h0
  have h1 := (by decide : ∀ a b : BitVec 1, IntOp.andi a b = 1#1 → a = 1#1 ∧ b = 1#1) _ _ h0
  refine ⟨fun n e => real_of_lt _ (Host.reduce_andi_all _ _ _ _ _ h1.1 (ix2 n e)), fun e o => real_of_lt _ ?_⟩
  have h2 := Host.reduce_andi_all _ _ _ _ _ h1.2 (ix2 e o)
  have hs : extractStridedSlice S2x64 ![0, 0] W Facts.slices_S4x64_S2x64_0_0 (ix2 e o) = W (ix2 (Fin.castLE (by decide) e) o) := by
    pointwise
    rfl
  rw [← hs]
  exact h2

end Cert.Pre_finite

end
end
-- ==== Proof.Ref.Table.lean ====
module

public import proofs.«01_k».proof.Proof.Crops
public import proofs.«01_k».proof.Proof.Gen.ReferenceIdeal.Run

/-! The reference's table of pixel positions, entry by entry. -/

@[expose] public section

set_option maxRecDepth 16384

noncomputable section

namespace Cert.ReferenceIdeal.Plain

open Cert.ReferenceIdeal Cert.ReferenceIdeal.Gen Cert.Crops
open Idealize.ShloMosaic Idealize.ShloMosaic.TcCoe Idealize.ShloMosaic.Tactic Idealize.ShloMosaic.StableHlo

/-- The reference's centroids along one axis, held between 64 and 448: the rows. -/
def heldRows (I : S128x2.Idx → BitVec 32) : S128.Idx → BitVec 32 :=
  minsi (broadcastInDim S128 ![] bcast_S_S128 (id (constantI S_ 32 448#32)))
    (maxsi (broadcastInDim S128 ![] bcast_S_S128 (id (constantI S_ 32 64#32)))
      (shapeCast _ (extractStridedSlice S128x1 ![0, 0] I slices_S128x2_S128x1_0_0) shapeCasts_S128x1_S128))

/-- The same for the columns. -/
def heldCols (I : S128x2.Idx → BitVec 32) : S128.Idx → BitVec 32 :=
  minsi (broadcastInDim S128 ![] bcast_S_S128 (id (constantI S_ 32 448#32)))
    (maxsi (broadcastInDim S128 ![] bcast_S_S128 (id (constantI S_ 32 64#32)))
      (shapeCast _ (extractStridedSlice S128x1 ![0, 1] I slices_S128x2_S128x1_0_1) shapeCasts_S128x1_S128))

/-- The first row and the first column of every crop, as the reference computes them. -/
def corners (I : S128x2.Idx → BitVec 32) : S128x2.Idx → BitVec 32 :=
  subi (concatenate S128x2 1 [⟨S128x1, broadcastInDim S128x1 ![0] bcast_S128_S128x1_0 (heldRows I)⟩,
      ⟨S128x1, broadcastInDim S128x1 ![0] bcast_S128_S128x1_0 (heldCols I)⟩] concatenates_S128x1_S128x1_S128x2_d1)
    (broadcastInDim S128x2 ![] bcast_S_S128x2 (constantI S_ 32 64#32))

/-- Row and column of each pixel inside a crop. -/
def offsets : S2x1x16384.Idx → BitVec 32 :=
  shapeCast _ (concatenate S2x128x128 0
    [⟨S1x128x128, broadcastInDim S1x128x128 ![1, 2] bcast_S128x128_S1x128x128_1_2
        (broadcastInDim S128x128 ![0] bcast_S128_S128x128_0 (iotaInDim S128 32 0))⟩,
      ⟨S1x128x128, broadcastInDim S1x128x128 ![1, 2] bcast_S128x128_S1x128x128_1_2
        (broadcastInDim S128x128 ![1] bcast_S128_S128x128_1 (iotaInDim S128 32 0))⟩]
    concatenates_S1x128x128_S1x128x128_S2x128x128_d0) shapeCasts_S2x128x128_S2x1x16384

/-- Row and column in the image of every pixel of every crop, crop after crop. -/
def table (I : S128x2.Idx → BitVec 32) : S2x2097152.Idx → BitVec 32 :=
  shapeCast _ (addi (broadcastInDim S2x128x16384 ![0, 1, 2] bcast_S2x1x16384_S2x128x16384_0_1_2 offsets)
    (broadcastInDim S2x128x16384 ![0, 1, 2] bcast_S2x128x1_S2x128x16384_0_1_2
      (broadcastInDim S2x128x1 ![0, 1] bcast_S2x128_S2x128x1_0_1
        (transpose S2x128 [1, 0] (corners I) transposes_S128x2_S2x128_1_0)))) shapeCasts_S2x128x16384_S2x2097152

/-- The table below the crops' numbers. -/
def ids (I : S128x2.Idx → BitVec 32) : S3x2097152.Idx → BitVec 32 :=
  concatenate S3x2097152 0
    [⟨S1x2097152, shapeCast _ (broadcastInDim S128x128x128 ![0, 1, 2] bcast_S128x1x1_S128x128x128_0_1_2
        (broadcastInDim S128x1x1 ![0] bcast_S128_S128x1x1_0 (iotaInDim S128 32 0))) shapeCasts_S128x128x128_S1x2097152⟩,
      ⟨S2x2097152, table I⟩] concatenates_S1x2097152_S2x2097152_S3x2097152_d0

/-- The crops' corners are the plain ones. -/
theorem corners_apply (I : S128x2.Idx → BitVec 32) (n : Fin 128) (a : Fin 2) : corners I (ix2 n a) = corner I n a := by
  unfold corners heldRows heldCols
  match a with
  | 0 =>
    pointwise
    rfl
  | 1 =>
    pointwise
    rfl

/-- The rows of a crop's pixels inside it. -/
theorem offsets_row (s : Fin 16384) : offsets (ix3 0 0 s) = BitVec.ofNat 32 (s.val / 128) := by
  unfold offsets
  pointwise

/-- The columns of a crop's pixels inside it. -/
theorem offsets_col (s : Fin 16384) : offsets (ix3 1 0 s) = BitVec.ofNat 32 (s.val % 128) := by
  unfold offsets
  pointwise

/-- The table's first row. -/
theorem table_row (I : S128x2.Idx → BitVec 32) (p : Fin 2097152) : table I (ix2 0 p) = idAt I 1 p := by
  unfold table
  pointwise
  rw [offsets_row, corners_apply]
  rfl

/-- The table's second row. -/
theorem table_col (I : S128x2.Idx → BitVec 32) (p : Fin 2097152) : table I (ix2 1 p) = idAt I 2 p := by
  unfold table
  pointwise
  rw [offsets_col, corners_apply]
  show BitVec.ofNat 32 (p.val % 16384 % 128) + _ = BitVec.ofNat 32 (p.val % 128) + _
  rw [show p.val % 16384 % 128 = p.val % 128 by omega]

/-- An entry of the indices the reference returns. -/
theorem ids_apply (I : S128x2.Idx → BitVec 32) (a : Fin 3) (p : Fin 2097152) : ids I (ix2 a p) = idAt I a p := by
  unfold ids
  match a with
  | 0 =>
    pointwise
    rfl
  | 1 =>
    pointwise
    exact table_row I p
  | 2 =>
    pointwise
    exact table_col I p

/-- The indices the reference returns are the plain ones. -/
theorem ids_eq (I : S128x2.Idx → BitVec 32) : ids I = fun j => idAt I (j 0) (j 1) :=
  funext fun j => (congrArg (ids I) (eq_ix2 j)).trans (ids_apply I (j 0) (j 1))

/-- A row or a column of the table is below 512. -/
theorem idAt_lt (I : S128x2.Idx → BitVec 32) (a : Fin 2) (p : Fin 2097152) : (idAt I (Fin.succ a) p).toNat < 512 := by
  match a with
  | 0 =>
    show (BitVec.ofNat 32 (p.val % 16384 / 128) + corner I ⟨p.val / 16384, by omega⟩ 0).toNat < 512
    have := corner_le I ⟨p.val / 16384, by omega⟩ 0
    rw [BitVec.toNat_add, BitVec.toNat_ofNat]
    omega
  | 1 =>
    show (BitVec.ofNat 32 (p.val % 128) + corner I ⟨p.val / 16384, by omega⟩ 1).toNat < 512
    have := corner_le I ⟨p.val / 16384, by omega⟩ 1
    rw [BitVec.toNat_add, BitVec.toNat_ofNat]
    omega

end Cert.ReferenceIdeal.Plain
end
end
-- ==== Proof.Ref.Moves.lean ====
module

public import proofs.«01_k».proof.Proof.Crops
public import proofs.«01_k».proof.Proof.Gen.ReferenceIdeal.Run
public import Idealize.ShloMosaic.Lib.Routing.OpsPair

/-! The reference's gather and its scatter, entry by entry. -/

@[expose] public section

set_option maxRecDepth 16384

noncomputable section

namespace Cert.ReferenceIdeal.Plain

open Cert.ReferenceIdeal Cert.ReferenceIdeal.Gen
open Idealize.ShloMosaic Idealize.ShloMosaic.TcCoe Idealize.ShloMosaic.Tactic Idealize.ShloMosaic.StableHlo

/-- The gather reads each plane at the row and the column that the index table gives, where these are inside the image. -/
theorem gather_apply (x : S4x512x512.Idx → EReal) (idx : S2097152x2.Idx → BitVec 32) (k : Fin 4) (p : Fin 2097152)
    (h0 : (idx (ix2 p 0)).toNat < 512) (h1 : (idx (ix2 p 1)).toNat < 512) :
    Host.gather gather_S4x512x512_S2097152x2_S4x2097152_0_12_n_n_12_1_411 x idx (ix2 k p)
      = x (ix3 k (Fin.ofNat 512 (idx (ix2 p 0)).toNat) (Fin.ofNat 512 (idx (ix2 p 1)).toNat)) := by
  have t0 : (idx (ix2 p 0)).toInt.toNat = (idx (ix2 p 0)).toNat := by
    rw [BitVec.toInt_eq_toNat_cond]; split <;> omega
  have t1 : (idx (ix2 p 1)).toInt.toNat = (idx (ix2 p 1)).toNat := by
    rw [BitVec.toInt_eq_toNat_cond]; split <;> omega
  unfold Host.gather
  refine congrArg x (funext fun a => Fin.ext ?_)
  match a with
  | 0 =>
    show 0 + 0 + k.val = k.val
    omega
  | 1 =>
    show min (idx _).toInt.toNat 511 + 0 + 0 = (idx (ix2 p 0)).toNat % 512
    have e : ∀ i : S2097152x2.Idx, i = ix2 p 0 → min (idx i).toInt.toNat 511 + 0 + 0 = (idx (ix2 p 0)).toNat % 512 := by
      rintro _ rfl
      rw [t0]; omega
    refine e _ (funext fun b => ?_)
    match b with
    | 0 => rfl
    | 1 => rfl
  | 2 =>
    show min (idx _).toInt.toNat 511 + 0 + 0 = (idx (ix2 p 1)).toNat % 512
    have e : ∀ i : S2097152x2.Idx, i = ix2 p 1 → min (idx i).toInt.toNat 511 + 0 + 0 = (idx (ix2 p 1)).toNat % 512 := by
      rintro _ rfl
      rw [t1]; omega
    refine e _ (funext fun b => ?_)
    match b with
    | 0 => rfl
    | 1 => rfl

/-- A fold whose step acts at no member of the list leaves its start. -/
theorem fold_none {α β : Type} (P : β → Prop) [DecidablePred P] (f : α → β → α) (l : List β) (x : α) (h : ∀ b ∈ l, ¬ P b) :
    l.foldl (fun a b => if P b then f a b else a) x = x := by
  induction l generalizing x with
  | nil => rfl
  | cons b l ih =>
    rw [List.foldl_cons, if_neg (h b (List.mem_cons_self ..))]
    exact ih x fun b' hb => h b' (List.mem_cons_of_mem _ hb)

/-- A fold whose step acts at one member alone of a list without repeats acts once. -/
theorem fold_one {α β : Type} (P : β → Prop) [DecidablePred P] (f : α → β → α) (l : List β) (hl : l.Nodup) (x : α) (b : β) (hb : b ∈ l)
    (h : ∀ b', P b' ↔ b' = b) : l.foldl (fun a b => if P b then f a b else a) x = f x b := by
  induction l generalizing x with
  | nil => exact absurd hb (List.not_mem_nil)
  | cons c l ih =>
    rw [List.nodup_cons] at hl
    rw [List.foldl_cons]
    by_cases e : c = b
    · subst e
      rw [if_pos ((h c).2 rfl)]
      exact fold_none P f l _ fun b' hb' hP => hl.1 ((h b').1 hP ▸ hb')
    · rw [if_neg fun hP => e ((h c).1 hP)]
      exact ih hl.2 x ((List.mem_cons.1 hb).resolve_left fun q => e q.symm)

/-- Update `j` of the scatter, whose one start index is 0, lands at the element with its own coordinates. -/
theorem lands (idx : S1.Idx → BitVec 32) (h0 : idx (ix1 0) = 0#32) (j : S128x2x128x128.Idx) (n : Fin 128) (k : Fin 4) (r q : Fin 128) :
    scatter_S128x4x128x128_S1_S128x2x128x128_0123_n_1_0.resultIdx? j idx = some (ix4 n k r q)
      ↔ (j 0).val = n.val ∧ (j 1).val = k.val ∧ (j 2).val = r.val ∧ (j 3).val = q.val := by
  have z : ∀ i : S1.Idx, (idx i).toInt = 0 := fun i => by
    rw [eq_ix1 i, Subsingleton.elim (α := Fin 1) (i 0) 0, h0]; rfl
  have e : ∀ i : S1.Idx, ∀ a : ℕ, (idx i).toInt + (a : Int) = (a : Int) := fun i a => by rw [z]; omega
  rw [Routing.resultIdx?_eq_some]
  constructor
  · intro h
    have a0 : (0 : Int) + ((j 0).val : Int) = (n.val : Int) := h 0
    have a1 := (e _ _).symm.trans (h 1)
    have a2 : (0 : Int) + ((j 2).val : Int) = (r.val : Int) := h 2
    have a3 : (0 : Int) + ((j 3).val : Int) = (q.val : Int) := h 3
    have a1' : ((j 1).val : Int) = (k.val : Int) := a1
    omega
  · rintro ⟨b0, b1, b2, b3⟩ a
    match a with
    | 0 =>
      show (0 : Int) + ((j 0).val : Int) = (n.val : Int)
      omega
    | 1 =>
      refine (e _ _).trans ?_
      show ((j 1).val : Int) = (k.val : Int)
      omega
    | 2 =>
      show (0 : Int) + ((j 2).val : Int) = (r.val : Int)
      omega
    | 3 =>
      show (0 : Int) + ((j 3).val : Int) = (q.val : Int)
      omega

/-- The scatter adds the update to the first two planes of every crop and leaves the others. -/
theorem scatter_apply (x : S128x4x128x128.Idx → EReal) (idx : S1.Idx → BitVec 32) (h0 : idx (ix1 0) = 0#32)
    (u : S128x2x128x128.Idx → EReal) (n : Fin 128) (k : Fin 4) (r q : Fin 128) :
    Host.scatter scatter_S128x4x128x128_S1_S128x2x128x128_0123_n_1_0 (FloatOps.addf (F := Ideal) (φ := .f32)) x idx u (ix4 n k r q)
      = if h : k.val < 2 then x (ix4 n k r q) + u (ix4 n ⟨k.val, h⟩ r q) else x (ix4 n k r q) := by
  rw [Routing.scatter_at]
  by_cases h : k.val < 2
  · rw [dif_pos h]
    refine (fold_one _ (fun a n' => FloatOps.addf (F := Ideal) (φ := .f32) a (u (S128x2x128x128.rowMajor.symm n'))) _ (List.nodup_finRange _) _
      (S128x2x128x128.rowMajor (ix4 n ⟨k.val, h⟩ r q)) (List.mem_finRange _) fun b => ?_).trans ?_
    · rw [lands idx h0, ← Equiv.symm_apply_eq]
      constructor
      · rintro ⟨b0, b1, b2, b3⟩
        funext a
        match a with
        | 0 => exact Fin.ext b0
        | 1 => exact Fin.ext b1
        | 2 => exact Fin.ext b2
        | 3 => exact Fin.ext b3
      · intro e
        rw [e]
        exact ⟨rfl, rfl, rfl, rfl⟩
    · simp only [Equiv.symm_apply_apply]
      rfl
  · rw [dif_neg h]
    refine fold_none _ (fun a n' => FloatOps.addf (F := Ideal) (φ := .f32) a (u (S128x2x128x128.rowMajor.symm n'))) _ _ fun b _ hb => ?_
    rw [lands idx h0] at hb
    have := ((S128x2x128x128.rowMajor.symm b) 1).isLt
    have t : ((S128x2x128x128.rowMajor.symm b) 1).val < 2 := this
    omega

end Cert.ReferenceIdeal.Plain
end
end
-- ==== Proof.Ref.Given.lean ====
module

public import proofs.«01_k».proof.Proof.Ref.Table
public import proofs.«01_k».proof.Proof.Ref.Moves

/-! The reference's crops: what its perceptron is given at each pixel. -/

@[expose] public section

set_option maxRecDepth 16384

noncomputable section

namespace Cert.ReferenceIdeal.Plain

open Cert.ReferenceIdeal Cert.ReferenceIdeal.Gen Cert.Crops
open Idealize.ShloMosaic Idealize.ShloMosaic.TcCoe Idealize.ShloMosaic.Tactic Idealize.ShloMosaic.StableHlo

/-- The row of every pixel, made non-negative the way array indices are. -/
def rows (I : S128x2.Idx → BitVec 32) : S2097152x1.Idx → BitVec 32 :=
  broadcastInDim S2097152x1 ![0] bcast_S2097152_S2097152x1_0
    (select (cmpi .slt (shapeCast _ (extractStridedSlice S1x2097152 ![0, 0] (table I) slices_S2x2097152_S1x2097152_0_0)
          shapeCasts_S1x2097152_S2097152) (broadcastInDim S2097152 ![] bcast_S_S2097152 (constantI S_ 32 0#32)))
      (addi (shapeCast _ (extractStridedSlice S1x2097152 ![0, 0] (table I) slices_S2x2097152_S1x2097152_0_0)
          shapeCasts_S1x2097152_S2097152) (broadcastInDim S2097152 ![] bcast_S_S2097152 (constantI S_ 32 512#32)))
      (shapeCast _ (extractStridedSlice S1x2097152 ![0, 0] (table I) slices_S2x2097152_S1x2097152_0_0)
        shapeCasts_S1x2097152_S2097152))

/-- The column of every pixel, made non-negative the way array indices are. -/
def cols (I : S128x2.Idx → BitVec 32) : S2097152x1.Idx → BitVec 32 :=
  broadcastInDim S2097152x1 ![0] bcast_S2097152_S2097152x1_0
    (select (cmpi .slt (shapeCast _ (extractStridedSlice S1x2097152 ![1, 0] (table I) slices_S2x2097152_S1x2097152_1_0)
          shapeCasts_S1x2097152_S2097152) (broadcastInDim S2097152 ![] bcast_S_S2097152 (constantI S_ 32 0#32)))
      (addi (shapeCast _ (extractStridedSlice S1x2097152 ![1, 0] (table I) slices_S2x2097152_S1x2097152_1_0)
          shapeCasts_S1x2097152_S2097152) (broadcastInDim S2097152 ![] bcast_S_S2097152 (constantI S_ 32 512#32)))
      (shapeCast _ (extractStridedSlice S1x2097152 ![1, 0] (table I) slices_S2x2097152_S1x2097152_1_0)
        shapeCasts_S1x2097152_S2097152))

/-- The gather's index table: row and column of every pixel. -/
def places (I : S128x2.Idx → BitVec 32) : S2097152x2.Idx → BitVec 32 :=
  concatenate S2097152x2 1 [⟨S2097152x1, rows I⟩, ⟨S2097152x1, cols I⟩] concatenates_S2097152x1_S2097152x1_S2097152x2_d1

/-- The four planes at every pixel of every crop. -/
def picked (X Y : S2x512x512.Idx → EReal) (I : S128x2.Idx → BitVec 32) : S4x2097152.Idx → EReal :=
  Host.gather gather_S4x512x512_S2097152x2_S4x2097152_0_12_n_n_12_1_411
    (concatenate S4x512x512 0 [⟨S2x512x512, X⟩, ⟨S2x512x512, Y⟩] concatenates_S2x512x512_S2x512x512_S4x512x512_d0) (places I)

/-- The picked planes, each crop's pixels by row and column. -/
def boxed (X Y : S2x512x512.Idx → EReal) (I : S128x2.Idx → BitVec 32) : S4x128x128x128.Idx → EReal :=
  shapeCast _ (picked X Y I) shapeCasts_S4x2097152_S4x128x128x128

/-- The crops, before the embedding is subtracted. -/
def laid (X Y : S2x512x512.Idx → EReal) (I : S128x2.Idx → BitVec 32) : S128x4x128x128.Idx → EReal :=
  transpose S128x4x128x128 [1, 0, 2, 3] (boxed X Y I) transposes_S4x128x128x128_S128x4x128x128_1_0_2_3

/-- The plane at which the update starts: the first. -/
def begins : S1.Idx → BitVec 32 := broadcastInDim S1 ![] bcast_S_S1 (constantI S_ 32 0#32)

/-- The update: the embedding with its sign turned, over the crop's pixels. -/
def lowered (C : S128x2.Idx → EReal) : S128x2x128x128.Idx → EReal :=
  broadcastInDim S128x2x128x128 ![0, 1, 2, 3] bcast_S128x2x1x1_S128x2x128x128_0_1_2_3
    (Host.negf (F := Ideal) (φ := .f32) (broadcastInDim S128x2x1x1 ![0, 1] bcast_S128x2_S128x2x1x1_0_1 C))

/-- The crops, with the embedding subtracted from the first two planes. -/
def moved (X Y : S2x512x512.Idx → EReal) (C : S128x2.Idx → EReal) (I : S128x2.Idx → BitVec 32) : S128x4x128x128.Idx → EReal :=
  Host.scatter scatter_S128x4x128x128_S1_S128x2x128x128_0123_n_1_0 (FloatOps.addf (F := Ideal) (φ := .f32))
    (laid X Y I) begins (lowered C)

/-- The perceptron's input: a row of four numbers for every pixel of every crop. -/
def given (X Y : S2x512x512.Idx → EReal) (C : S128x2.Idx → EReal) (I : S128x2.Idx → BitVec 32) : S2097152x4.Idx → EReal :=
  shapeCast _ (transpose S128x128x128x4 [0, 2, 3, 1] (moved X Y C I) transposes_S128x4x128x128_S128x128x128x4_0_2_3_1)
    shapeCasts_S128x128x128x4_S2097152x4

/-- No row of the table is negative, so the rows are the table's. -/
theorem rows_apply (I : S128x2.Idx → BitVec 32) (p : Fin 2097152) : rows I (ix2 p 0) = idAt I 1 p := by
  unfold rows
  pointwise
  rw [table_row]
  exact Routing.wrap_of_lt _ _ (lt_trans (idAt_lt I 0 p) (by norm_num))

/-- No column of the table is negative, so the columns are the table's. -/
theorem cols_apply (I : S128x2.Idx → BitVec 32) (p : Fin 2097152) : cols I (ix2 p 0) = idAt I 2 p := by
  unfold cols
  pointwise
  rw [table_col]
  exact Routing.wrap_of_lt _ _ (lt_trans (idAt_lt I 1 p) (by norm_num))

/-- The index table's first column. -/
theorem places_row (I : S128x2.Idx → BitVec 32) (p : Fin 2097152) : places I (ix2 p 0) = idAt I 1 p := by
  unfold places
  pointwise
  exact rows_apply I p

/-- The index table's second column. -/
theorem places_col (I : S128x2.Idx → BitVec 32) (p : Fin 2097152) : places I (ix2 p 1) = idAt I 2 p := by
  unfold places
  pointwise
  exact cols_apply I p

/-- The two pairs of planes as one stack. -/
theorem planes_apply (X Y : S2x512x512.Idx → EReal) (k : Fin 4) (y x : Fin 512) :
    concatenate S4x512x512 0 [⟨S2x512x512, X⟩, ⟨S2x512x512, Y⟩] concatenates_S2x512x512_S2x512x512_S4x512x512_d0 (ix3 k y x)
      = stack X Y k y x := by
  match k with
  | 0 =>
    pointwise
    rfl
  | 1 =>
    pointwise
    rfl
  | 2 =>
    pointwise
    rfl
  | 3 =>
    pointwise
    rfl

/-- What the gather picks is the plain crops' pixel. -/
theorem picked_apply (X Y : S2x512x512.Idx → EReal) (I : S128x2.Idx → BitVec 32) (k : Fin 4) (n r q : Fin 128) (p : Fin 2097152)
    (hp : p.val = n.val * 16384 + r.val * 128 + q.val) : picked X Y I (ix2 k p) = pixel X Y I n r q k := by
  have en : p.val / 16384 = n.val := by omega
  have er : p.val % 16384 / 128 = r.val := by omega
  have eq : p.val % 128 = q.val := by omega
  have e1 : idAt I 1 p = BitVec.ofNat 32 r.val + corner I n 0 := by
    show BitVec.ofNat 32 (p.val % 16384 / 128) + corner I ⟨p.val / 16384, _⟩ 0 = _
    rw [er]
    exact congrArg (fun t => BitVec.ofNat 32 r.val + corner I t 0) (Fin.ext en)
  have e2 : idAt I 2 p = BitVec.ofNat 32 q.val + corner I n 1 := by
    show BitVec.ofNat 32 (p.val % 128) + corner I ⟨p.val / 16384, _⟩ 1 = _
    rw [eq]
    exact congrArg (fun t => BitVec.ofNat 32 q.val + corner I t 1) (Fin.ext en)
  have c0 := corner_le I n 0
  have c1 := corner_le I n 1
  have t1 : (idAt I 1 p).toNat = (corner I n 0).toNat + r.val := by
    rw [e1, BitVec.toNat_add, BitVec.toNat_ofNat]; omega
  have t2 : (idAt I 2 p).toNat = (corner I n 1).toNat + q.val := by
    rw [e2, BitVec.toNat_add, BitVec.toNat_ofNat]; omega
  unfold picked pixel
  rw [gather_apply _ _ k p (by rw [places_row]; exact idAt_lt I 0 p) (by rw [places_col]; exact idAt_lt I 1 p), planes_apply,
    places_row, places_col, t1, t2]

/-- A crop's pixel by row and column. -/
theorem boxed_apply (X Y : S2x512x512.Idx → EReal) (I : S128x2.Idx → BitVec 32) (k : Fin 4) (n r q : Fin 128) :
    boxed X Y I (ix4 k n r q) = pixel X Y I n r q k := by
  have hp : n.val * 16384 + r.val * 128 + q.val < 2097152 := by omega
  refine (shapeCast_apply (picked X Y I) shapeCasts_S4x2097152_S4x128x128x128 (ix4 k n r q)
    (ix2 k ⟨n.val * 16384 + r.val * 128 + q.val, hp⟩) ?_).trans (picked_apply X Y I k n r q _ rfl)
  rw [Shape.rowMajor_val_two, Shape.rowMajor_val_four]
  show k.val * 2097152 + (n.val * 16384 + r.val * 128 + q.val) = ((k.val * 128 + n.val) * 128 + r.val) * 128 + q.val
  omega

/-- The exchange of planes and crops, at one element. -/
theorem exchanged (B : S4x128x128x128.Idx → EReal) (n : Fin 128) (k : Fin 4) (r q : Fin 128) :
    transpose S128x4x128x128 [1, 0, 2, 3] B transposes_S4x128x128x128_S128x4x128x128_1_0_2_3 (ix4 n k r q) = B (ix4 k n r q) := by
  pointwise

/-- The crops, before the embedding is subtracted, are the plain ones. -/
theorem laid_apply (X Y : S2x512x512.Idx → EReal) (I : S128x2.Idx → BitVec 32) (n : Fin 128) (k : Fin 4) (r q : Fin 128) :
    laid X Y I (ix4 n k r q) = pixel X Y I n r q k :=
  (exchanged (boxed X Y I) n k r q).trans (boxed_apply X Y I k n r q)

/-- The update starts at plane 0. -/
theorem begins_apply : begins (ix1 0) = 0#32 := by
  unfold begins
  pointwise

/-- The update at one element. -/
theorem lowered_apply (C : S128x2.Idx → EReal) (n : Fin 128) (k : Fin 2) (r q : Fin 128) : lowered C (ix4 n k r q) = -C (ix2 n k) := by
  unfold lowered
  pointwise

/-- The crops with the embedding subtracted are the plain features. -/
theorem moved_apply (X Y : S2x512x512.Idx → EReal) (C : S128x2.Idx → EReal) (I : S128x2.Idx → BitVec 32) (n : Fin 128) (k : Fin 4)
    (r q : Fin 128) : moved X Y C I (ix4 n k r q) = feature X Y C I n r q k := by
  refine (scatter_apply (laid X Y I) begins begins_apply (lowered C) n k r q).trans ?_
  unfold feature
  by_cases h : k.val < 2
  · rw [dif_pos h, dif_pos h, laid_apply, lowered_apply]
  · rw [dif_neg h, dif_neg h, laid_apply]

/-- Indices with equal coordinates are equal. -/
theorem ix4_of {n n' : Fin 128} {k k' : Fin 4} {r r' q q' : Fin 128} (hn : n.val = n'.val) (hk : k = k') (hr : r.val = r'.val)
    (hq : q.val = q'.val) : (ix4 n k r q : S128x4x128x128.Idx) = ix4 n' k' r' q' := by
  obtain rfl := Fin.ext hn
  obtain rfl := hk
  obtain rfl := Fin.ext hr
  obtain rfl := Fin.ext hq
  rfl

/-- Row `p` of the perceptron's input. -/
theorem given_apply (X Y : S2x512x512.Idx → EReal) (C : S128x2.Idx → EReal) (I : S128x2.Idx → BitVec 32) (k : Fin 4) (n r q : Fin 128)
    (p : Fin 2097152) (hp : p.val = n.val * 16384 + r.val * 128 + q.val) : given X Y C I (ix2 p k) = feature X Y C I n r q k := by
  rw [← moved_apply]
  unfold given
  pointwise
  exact congrArg (moved X Y C I) (ix4_of (by show p.val / 16384 = n.val; omega) rfl (by show p.val / 128 % 128 = r.val; omega)
    (by show p.val % 128 = q.val; omega))

end Cert.ReferenceIdeal.Plain
end
end
-- ==== Proof.Ref.Layers.lean ====
module

public import proofs.«01_k».proof.Proof.Ref.Given

/-! The reference's perceptron at one pixel, and the value of its two results. -/

@[expose] public section

set_option maxRecDepth 16384

noncomputable section

namespace Cert.ReferenceIdeal.Plain

open Cert.ReferenceIdeal Cert.ReferenceIdeal.Gen Cert.Crops
open Idealize.ShloMosaic Idealize.ShloMosaic.TcCoe Idealize.ShloMosaic.Tactic Idealize.ShloMosaic.StableHlo

/-- The reference's first layer over a whole table of inputs. -/
def first (f : S2097152x4.Idx → EReal) (W : S4x64.Idx → EReal) (b : S64.Idx → EReal) : S2097152x64.Idx → EReal :=
  maximumf (F := Ideal) (φ := .f32)
    (addf (Host.dotGeneral (F := Ideal) (φ₁ := .f32) (φ₂ := .f32) dot_S2097152x4_S4x64_S2097152x64_1_0_0_1_n_n none f W)
      (broadcastInDim S2097152x64 ![0, 1] bcast_S1x64_S2097152x64_0_1 (broadcastInDim S1x64 ![1] bcast_S64_S1x64_1 b)))
    (broadcastInDim S2097152x64 ![] bcast_S_S2097152x64 (constant S_ .f32 0x00000000#32))

/-- The reference's second layer. -/
def second (h : S2097152x64.Idx → EReal) (W : S64x64.Idx → EReal) (b : S64.Idx → EReal) : S2097152x64.Idx → EReal :=
  maximumf (F := Ideal) (φ := .f32)
    (addf (Host.dotGeneral (F := Ideal) (φ₁ := .f32) (φ₂ := .f32) dot_S2097152x64_S64x64_S2097152x64_1_0_0_1_n_n none h W)
      (broadcastInDim S2097152x64 ![0, 1] bcast_S1x64_S2097152x64_0_1 (broadcastInDim S1x64 ![1] bcast_S64_S1x64_1 b)))
    (broadcastInDim S2097152x64 ![] bcast_S_S2097152x64 (constant S_ .f32 0x00000000#32))

/-- The reference's last layer and its sigmoid. -/
def third (h : S2097152x64.Idx → EReal) (W : S64x1.Idx → EReal) (b : S1.Idx → EReal) : S2097152x1.Idx → EReal :=
  Host.divf (F := Ideal) (φ := .f32) (broadcastInDim S2097152x1 ![] bcast_S_S2097152x1 (constant S_ .f32 0x3F800000#32))
    (addf (broadcastInDim S2097152x1 ![] bcast_S_S2097152x1 (constant S_ .f32 0x3F800000#32))
      (Host.exp (Host.negf
        (addf (Host.dotGeneral (F := Ideal) (φ₁ := .f32) (φ₂ := .f32) dot_S2097152x64_S64x1_S2097152x1_1_0_0_1_n_n none h W)
          (broadcastInDim S2097152x1 ![0, 1] bcast_S1x1_S2097152x1_0_1 (broadcastInDim S1x1 ![1] bcast_S1_S1x1_1 b))))))

/-- The first layer at one row. -/
theorem first_apply (f : S2097152x4.Idx → EReal) (W : S4x64.Idx → EReal) (b : S64.Idx → EReal) (p : Fin 2097152) (o : Fin 64) :
    first f W b (ix2 p o) = layer1 (fun k => f (ix2 p k)) W b o := by
  unfold first layer1
  pointwise

/-- The second layer at one row. -/
theorem second_apply (h : S2097152x64.Idx → EReal) (W : S64x64.Idx → EReal) (b : S64.Idx → EReal) (p : Fin 2097152) (o : Fin 64) :
    second h W b (ix2 p o) = layer2 (fun k => h (ix2 p k)) W b o := by
  unfold second layer2
  pointwise

/-- The last layer at one row. -/
theorem third_apply (h : S2097152x64.Idx → EReal) (W : S64x1.Idx → EReal) (b : S1.Idx → EReal) (p : Fin 2097152) :
    third h W b (ix2 p 0) = layer3 (fun k => h (ix2 p k)) W b := by
  unfold third layer3
  pointwise

/-- The three layers over the whole table, arranged by crop, row and column. -/
def whole (X Y : S2x512x512.Idx → EReal) (C : S128x2.Idx → EReal) (I : S128x2.Idx → BitVec 32) (W1 : S4x64.Idx → EReal)
    (b1 : S64.Idx → EReal) (W2 : S64x64.Idx → EReal) (b2 : S64.Idx → EReal) (W3 : S64x1.Idx → EReal) (b3 : S1.Idx → EReal) :
    S128x1x128x128.Idx → EReal :=
  shapeCast _ (third (second (first (given X Y C I) W1 b1) W2 b2) W3 b3) shapeCasts_S2097152x1_S128x1x128x128

/-- The reference's probability at one pixel is the plain one. -/
theorem whole_apply (X Y : S2x512x512.Idx → EReal) (C : S128x2.Idx → EReal) (I : S128x2.Idx → BitVec 32) (W1 : S4x64.Idx → EReal)
    (b1 : S64.Idx → EReal) (W2 : S64x64.Idx → EReal) (b2 : S64.Idx → EReal) (W3 : S64x1.Idx → EReal) (b3 : S1.Idx → EReal)
    (n r q : Fin 128) : whole X Y C I W1 b1 W2 b2 W3 b3 (ix4 n 0 r q) = probAt X Y C I W1 b1 W2 b2 W3 b3 n r q := by
  have key : ∀ p : Fin 2097152, p.val = n.val * 16384 + r.val * 128 + q.val →
      third (second (first (given X Y C I) W1 b1) W2 b2) W3 b3 (ix2 p 0) = probAt X Y C I W1 b1 W2 b2 W3 b3 n r q := fun p hp => by
    rw [third_apply]
    refine congrArg (fun h => layer3 h W3 b3) (funext fun k => ?_)
    rw [second_apply]
    refine congrArg (fun h => layer2 h W2 b2 k) (funext fun k => ?_)
    rw [first_apply]
    exact congrArg (fun h => layer1 h W1 b1 k) (funext fun k => given_apply X Y C I k n r q p hp)
  unfold whole
  pointwise
  exact key _ (by dsimp only)

/-- The reference's probabilities, as its run states them, are the plain ones. -/
theorem prob_eq (m : (ℓ : Loc nD τ sig) → Buf (Elt Ideal) ℓ) (c : Dev nD) :
    Cert.ReferenceIdeal.Value.res_main_v73 m c = (fun j : S128x1x128x128.Idx =>
      probAt (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (j 0) (j 2) (j 3)) := by
  have e : Cert.ReferenceIdeal.Value.res_main_v73 m c
      = whole (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) := rfl
  rw [e]
  funext j
  have hj : j = ix4 (j 0) (0 : Fin 1) (j 2) (j 3) := by
    funext a
    match a with
    | 0 => rfl
    | 1 => exact Subsingleton.elim (α := Fin 1) _ _
    | 2 => rfl
    | 3 => rfl
  exact (congrArg _ hj).trans (whole_apply _ _ _ _ _ _ _ _ _ _ (j 0) (j 2) (j 3))

end Cert.ReferenceIdeal.Plain
end
end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Bits.Launch
public import proofs.«01_k».proof.Proof.Ideal.Result
public import proofs.«01_k».proof.Proof.Fold
public import proofs.«01_k».proof.Proof.Finite
public import proofs.«01_k».proof.Proof.Ref.Layers
public import Idealize.ShloMosaic.Adequacy
public import Idealize.ShloMosaic.Init

@[expose] public section

set_option maxRecDepth 16384

noncomputable section

namespace Cert.Proof

open Idealize.ShloMosaic Idealize.SL.Sem

/-- The kernel's program: every run ends, with its arguments as they were and every semaphore at zero. -/
theorem frame_kernel : Cert.quiescent_Kernel := fun m ρ _ => Cert.Kernel.Body.quiet m ρ

/-- The same of the kernel's program over the extended reals. -/
theorem frame_kernelIdeal : Cert.quiescent_KernelIdeal := fun m ρ _ => Cert.KernelIdeal.Body.quiet m ρ

/-- The same of the reference, which has no semaphore. -/
theorem frame_referenceIdeal : Cert.quiescent_ReferenceIdeal := fun m ρ _ =>
  (θ_run Cert.ReferenceIdeal.defs _ _).mono
    (fun r h => ⟨fun c => (h c).2.2, Idealize.ShloMosaic.sem_eq_zero_of_no_sems (by decide) r.2⟩)
    (Cert.ReferenceIdeal.Value.run m ρ)

/-- Under the precondition the kernel's probabilities are the plain ones. -/
theorem prob_kernel (m : (ℓ : Loc Cert.KernelIdeal.nD Cert.KernelIdeal.τ Cert.KernelIdeal.sig) → Buf (Elt Ideal) ℓ)
    (hpre : Cert.Pre_KernelIdeal_finite (hPre_finite := Cert.Pre_finite.facts) m) (c : Dev Cert.KernelIdeal.nD) (n r q : Fin 128) :
    Cert.KernelIdeal.Body.kernelAt m c n r q
      = Cert.Crops.probAt (Cert.KernelIdeal.Body.argX m c) (Cert.KernelIdeal.Body.argY m c) (Cert.KernelIdeal.Body.argC m c)
          (Cert.KernelIdeal.Body.argI m c) (Cert.KernelIdeal.Body.argW1 m c) (Cert.KernelIdeal.Body.argB1 m c)
          (Cert.KernelIdeal.Body.argW2 m c) (Cert.KernelIdeal.Body.argB2 m c) (Cert.KernelIdeal.Body.argW3 m c)
          (Cert.KernelIdeal.Body.argB3 m c) n r q := by
  haveI := Cert.Pre_finite.facts
  have h := Cert.Pre_finite.reals _ _ _ _ _ _ _ _ _ _ (hpre c)
  exact Cert.Crops.kernelAt_eq m c h.1 h.2 n r q

/-- The kernel's program and the reference, over the extended reals and from equal arguments, return equal results. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.facts) := by
  intro m g m' g' hpre hag
  refine ⟨_, _, Cert.KernelIdeal.Body.results m g, (θ_run Cert.ReferenceIdeal.defs _ _).mono (fun r h c => ?_)
    (Cert.ReferenceIdeal.Value.run m' g')⟩
  obtain ⟨h0, h1, h2⟩ := h c
  obtain ⟨e0, e1, e2, e3, e4, e5, e6, e7, e8, e9⟩ := hag c
  refine ⟨(h0.trans (Cert.ReferenceIdeal.Plain.prob_eq m' c)).trans (funext fun j => ?_), (h1.trans ?_), h2⟩
  · refine Eq.trans ?_ (prob_kernel m hpre c (j 0) (j 2) (j 3)).symm
    rw [e0, e1, e2, e3, e4, e5, e6, e7, e8, e9]
  · refine (Cert.ReferenceIdeal.Plain.ids_eq _).trans (funext fun j => ?_)
    exact congrArg (fun I => Cert.Crops.idAt I (j 0) (j 1)) e3

/-- All the claims. -/
theorem claim : Cert.Claim :=
  ⟨Cert.Kernel.Gen.facts, Cert.KernelIdeal.Gen.facts, Cert.ReferenceIdeal.Gen.facts, Cert.Pre_finite.facts,
    frame_kernel, frame_kernelIdeal, fun m ρ _ => Cert.KernelIdeal.Body.quiet m ρ, frame_referenceIdeal,
    fun m ρ _ => frame_referenceIdeal m ρ trivial, trivial, algebraic⟩

end Cert.Proof

end
